-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 8192]⟩ ⟨2, ![4096, 8192]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 8192]⟩ ⟨2, ![4096, 8192]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x8192 : Shape := ⟨2, ![1024, 8192]⟩
abbrev S1 : Shape := ⟨1, ![1]⟩
abbrev S2x2x1024x1024 : Shape := ⟨4, ![2, 2, 1024, 1024]⟩
abbrev S1024x1024 : Shape := ⟨2, ![1024, 1024]⟩
abbrev S2x512x1024 : Shape := ⟨3, ![2, 512, 1024]⟩
abbrev S4x512x1024 : Shape := ⟨3, ![4, 512, 1024]⟩
abbrev S_ : Shape := ⟨0, ![]⟩
abbrev S4x3x2 : Shape := ⟨3, ![4, 3, 2]⟩
abbrev S4x2 : Shape := ⟨2, ![4, 2]⟩
abbrev S1x1x1024x1024 : Shape := ⟨4, ![1, 1, 1024, 1024]⟩
abbrev S512x1024 : Shape := ⟨2, ![512, 1024]⟩
abbrev S1x512x1024 : Shape := ⟨3, ![1, 512, 1024]⟩
abbrev S1x1x1 : Shape := ⟨3, ![1, 1, 1]⟩
abbrev S1x1 : Shape := ⟨2, ![1, 1]⟩

abbrev nBuf : Space → Nat
  | .hbm => 5
  | .vmem => 11
  | .smem => 2
  | _ => 0

abbrev bufTy : (tb : Table) → Fin (tcTables nBuf tb) → BufTy
  | .hbm, ⟨0, _⟩ => ⟨S4096x1024, .f32⟩
  | .hbm, ⟨1, _⟩ => ⟨S1024x8192, .f32⟩
  | .hbm, ⟨2, _⟩ => ⟨S1, .f32⟩
  | .hbm, ⟨3, _⟩ => ⟨S1, .f32⟩
  | .hbm, ⟨4, _⟩ => ⟨S1024x8192, .f32⟩
  | .local _ .vmem, ⟨0, _⟩ => ⟨S4096x1024, .bf16⟩
  | .local _ .vmem, ⟨1, _⟩ => ⟨S2x2x1024x1024, .bf16⟩
  | .local _ .vmem, ⟨2, _⟩ => ⟨S1024x1024, .f32⟩
  | .local _ .vmem, ⟨3, _⟩ => ⟨S2x512x1024, .bf16⟩
  | .local _ .vmem, ⟨4, _⟩ => ⟨S2x512x1024, .bf16⟩
  | .local _ .vmem, ⟨5, _⟩ => ⟨S4x512x1024, .bf16⟩
  | .local _ .vmem, ⟨6, _⟩ => ⟨S4x512x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | .local _ .smem, ⟨0, _⟩ => ⟨S1, .f32⟩
  | .local _ .smem, ⟨1, _⟩ => ⟨S1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | _, _ => false

abbrev semScoped : Fin 1 → Bool
  | ⟨0, _⟩ => false
  | _ => false

abbrev dmaSemScoped : Fin 107 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | _ => false

abbrev sig : RefSig :=
  (ofTc nBuf bufTy 1 107 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_6 : BitVec 32 := 1#32
  let v9 : BitVec 32 := Scalar.muli v7 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_8 : BitVec 32 := 1#32
  let v11 : BitVec 32 := Scalar.muli v4 c1_i32_8
  let v12 : BitVec 32 := Scalar.addi c0_i32_9 v11
  v12.toNat
def k0_off1 (d0 : Dev nD) (c3_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v30 : BitVec 32 := Scalar.addi v2 c3_i32
  let c4_i32_29 : BitVec 32 := 4#32
  let v31 : BitVec 32 := Scalar.remsi v30 c4_i32_29
  let c1024_i32 : BitVec 32 := 1024#32
  let v32 : BitVec 32 := Scalar.muli v31 c1024_i32
  let c0_i32_30 : BitVec 32 := 0#32
  ![v32.toNat, 0]
def k0_off2 (d0 : Dev nD) (c3_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v30 : BitVec 32 := Scalar.addi v2 c3_i32
  let c4_i32_29 : BitVec 32 := 4#32
  let v31 : BitVec 32 := Scalar.remsi v30 c4_i32_29
  let c1024_i32_34 : BitVec 32 := 1024#32
  let v37 : BitVec 32 := Scalar.muli v31 c1024_i32_34
  let v38 : Index := Scalar.indexCast v37
  let c0_35 : Index := 0#32
  ![v38.toNat, 0]
def k0_dev3 (d0 : Dev nD) : Nat :=
  let c0_i32_85 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_84 : BitVec 32 := 1#32
  let v86 : BitVec 32 := Scalar.muli v4 c1_i32_84
  let v87 : BitVec 32 := Scalar.addi c0_i32_85 v86
  v87.toNat
def k0_dev4 (d0 : Dev nD) : Nat :=
  let c0_i32_99 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_98 : BitVec 32 := 1#32
  let v96 : BitVec 32 := Scalar.muli v7 c1_i32_98
  let v97 : BitVec 32 := Scalar.addi c0_i32_99 v96
  v97.toNat
def k0_dev5 (d0 : Dev nD) : Nat :=
  let c0_i32_122 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_121 : BitVec 32 := 1#32
  let v114 : BitVec 32 := Scalar.muli v4 c1_i32_121
  let v115 : BitVec 32 := Scalar.addi c0_i32_122 v114
  v115.toNat
def k0_dev6 (d0 : Dev nD) : Nat :=
  let c0_i32_136 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_135 : BitVec 32 := 1#32
  let v124 : BitVec 32 := Scalar.muli v7 c1_i32_135
  let v125 : BitVec 32 := Scalar.addi c0_i32_136 v124
  v125.toNat
def k0_off3 (d0 : Dev nD) (c0_i32_161 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_160 : BitVec 32 := 2#32
  let v153 : BitVec 32 := Scalar.addi v2 c2_i32_160
  let v154 : BitVec 32 := Scalar.subi v153 c0_i32_161
  let c4_i32_162 : BitVec 32 := 4#32
  let v155 : BitVec 32 := Scalar.remsi v154 c4_i32_162
  let c1024_i32_163 : BitVec 32 := 1024#32
  let v156 : BitVec 32 := Scalar.muli v155 c1024_i32_163
  let v157 : Index := Scalar.indexCast v156
  let c0_164 : Index := 0#32
  ![v157.toNat, 0]
def k0_off4 (d0 : Dev nD) (c0_i32_173 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_172 : BitVec 32 := 2#32
  let v166 : BitVec 32 := Scalar.addi v2 c2_i32_172
  let v167 : BitVec 32 := Scalar.addi v166 c0_i32_173
  let c4_i32_174 : BitVec 32 := 4#32
  let v168 : BitVec 32 := Scalar.remsi v167 c4_i32_174
  let c1024_i32_175 : BitVec 32 := 1024#32
  let v169 : BitVec 32 := Scalar.muli v168 c1024_i32_175
  let v170 : Index := Scalar.indexCast v169
  let c0_176 : Index := 0#32
  ![v170.toNat, 0]
def k0_dev7 (d0 : Dev nD) : Nat :=
  let c0_i32_263 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_262 : BitVec 32 := 1#32
  let v221 : BitVec 32 := Scalar.muli v4 c1_i32_262
  let v222 : BitVec 32 := Scalar.addi c0_i32_263 v221
  v222.toNat
def k0_dev8 (d0 : Dev nD) : Nat :=
  let c0_i32_277 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_276 : BitVec 32 := 1#32
  let v231 : BitVec 32 := Scalar.muli v7 c1_i32_276
  let v232 : BitVec 32 := Scalar.addi c0_i32_277 v231
  v232.toNat
def k0_dev9 (d0 : Dev nD) : Nat :=
  let c0_i32_361 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_360 : BitVec 32 := 1#32
  let v283 : BitVec 32 := Scalar.muli v4 c1_i32_360
  let v284 : BitVec 32 := Scalar.addi c0_i32_361 v283
  v284.toNat
def k0_dev10 (d0 : Dev nD) : Nat :=
  let c0_i32_375 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_374 : BitVec 32 := 1#32
  let v293 : BitVec 32 := Scalar.muli v7 c1_i32_374
  let v294 : BitVec 32 := Scalar.addi c0_i32_375 v293
  v294.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_380 : BitVec 32 := 1024#32
  let v303 : BitVec 32 := Scalar.muli v2 c1024_i32_380
  let c0_i32_381 : BitVec 32 := 0#32
  ![v303.toNat, 0]
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_385 : BitVec 32 := 1024#32
  let v308 : BitVec 32 := Scalar.muli v2 c1024_i32_385
  let v309 : Index := Scalar.indexCast v308
  let c0_386 : Index := 0#32
  ![v309.toNat, 0]
def k0_dev11 (d0 : Dev nD) : Nat :=
  let c0_i32_498 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_497 : BitVec 32 := 1#32
  let v388 : BitVec 32 := Scalar.muli v4 c1_i32_497
  let v389 : BitVec 32 := Scalar.addi c0_i32_498 v388
  v389.toNat
def k0_dev12 (d0 : Dev nD) : Nat :=
  let c0_i32_512 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_511 : BitVec 32 := 1#32
  let v398 : BitVec 32 := Scalar.muli v7 c1_i32_511
  let v399 : BitVec 32 := Scalar.addi c0_i32_512 v398
  v399.toNat
def k0_dev13 (d0 : Dev nD) : Nat :=
  let c0_i32_595 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_594 : BitVec 32 := 1#32
  let v450 : BitVec 32 := Scalar.muli v4 c1_i32_594
  let v451 : BitVec 32 := Scalar.addi c0_i32_595 v450
  v451.toNat
def k0_dev14 (d0 : Dev nD) : Nat :=
  let c0_i32_609 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_608 : BitVec 32 := 1#32
  let v460 : BitVec 32 := Scalar.muli v7 c1_i32_608
  let v461 : BitVec 32 := Scalar.addi c0_i32_609 v460
  v461.toNat
def k0_dev15 (d0 : Dev nD) : Nat :=
  let c0_i32_741 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_740 : BitVec 32 := 1#32
  let v568 : BitVec 32 := Scalar.muli v4 c1_i32_740
  let v569 : BitVec 32 := Scalar.addi c0_i32_741 v568
  v569.toNat
def k0_dev16 (d0 : Dev nD) : Nat :=
  let c0_i32_755 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_754 : BitVec 32 := 1#32
  let v578 : BitVec 32 := Scalar.muli v7 c1_i32_754
  let v579 : BitVec 32 := Scalar.addi c0_i32_755 v578
  v579.toNat
def k0_dev17 (d0 : Dev nD) : Nat :=
  let c0_i32_847 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_846 : BitVec 32 := 1#32
  let v644 : BitVec 32 := Scalar.muli v4 c1_i32_846
  let v645 : BitVec 32 := Scalar.addi c0_i32_847 v644
  v645.toNat
def k0_dev18 (d0 : Dev nD) : Nat :=
  let c0_i32_861 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_860 : BitVec 32 := 1#32
  let v654 : BitVec 32 := Scalar.muli v7 c1_i32_860
  let v655 : BitVec 32 := Scalar.addi c0_i32_861 v654
  v655.toNat
def k0_dev19 (d0 : Dev nD) : Nat :=
  let c0_i32_986 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_985 : BitVec 32 := 1#32
  let v745 : BitVec 32 := Scalar.muli v4 c1_i32_985
  let v746 : BitVec 32 := Scalar.addi c0_i32_986 v745
  v746.toNat
def k0_dev20 (d0 : Dev nD) : Nat :=
  let c0_i32_1000 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_999 : BitVec 32 := 1#32
  let v755 : BitVec 32 := Scalar.muli v7 c1_i32_999
  let v756 : BitVec 32 := Scalar.addi c0_i32_1000 v755
  v756.toNat
def k0_dev21 (d0 : Dev nD) : Nat :=
  let c0_i32_1084 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1083 : BitVec 32 := 1#32
  let v807 : BitVec 32 := Scalar.muli v4 c1_i32_1083
  let v808 : BitVec 32 := Scalar.addi c0_i32_1084 v807
  v808.toNat
def k0_dev22 (d0 : Dev nD) : Nat :=
  let c0_i32_1098 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1097 : BitVec 32 := 1#32
  let v817 : BitVec 32 := Scalar.muli v7 c1_i32_1097
  let v818 : BitVec 32 := Scalar.addi c0_i32_1098 v817
  v818.toNat
def k0_dev23 (d0 : Dev nD) : Nat :=
  let c0_i32_1215 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1214 : BitVec 32 := 1#32
  let v902 : BitVec 32 := Scalar.muli v4 c1_i32_1214
  let v903 : BitVec 32 := Scalar.addi c0_i32_1215 v902
  v903.toNat
def k0_dev24 (d0 : Dev nD) : Nat :=
  let c0_i32_1229 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1228 : BitVec 32 := 1#32
  let v912 : BitVec 32 := Scalar.muli v7 c1_i32_1228
  let v913 : BitVec 32 := Scalar.addi c0_i32_1229 v912
  v913.toNat
def k0_dev25 (d0 : Dev nD) : Nat :=
  let c0_i32_1313 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1312 : BitVec 32 := 1#32
  let v964 : BitVec 32 := Scalar.muli v4 c1_i32_1312
  let v965 : BitVec 32 := Scalar.addi c0_i32_1313 v964
  v965.toNat
def k0_dev26 (d0 : Dev nD) : Nat :=
  let c0_i32_1327 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1326 : BitVec 32 := 1#32
  let v974 : BitVec 32 := Scalar.muli v7 c1_i32_1326
  let v975 : BitVec 32 := Scalar.addi c0_i32_1327 v974
  v975.toNat
def k0_dev27 (d0 : Dev nD) : Nat :=
  let c0_i32_1467 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1466 : BitVec 32 := 1#32
  let v1088 : BitVec 32 := Scalar.muli v4 c1_i32_1466
  let v1089 : BitVec 32 := Scalar.addi c0_i32_1467 v1088
  v1089.toNat
def k0_dev28 (d0 : Dev nD) : Nat :=
  let c0_i32_1481 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1480 : BitVec 32 := 1#32
  let v1098 : BitVec 32 := Scalar.muli v7 c1_i32_1480
  let v1099 : BitVec 32 := Scalar.addi c0_i32_1481 v1098
  v1099.toNat
def k0_dev29 (d0 : Dev nD) : Nat :=
  let c0_i32_1573 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1572 : BitVec 32 := 1#32
  let v1164 : BitVec 32 := Scalar.muli v4 c1_i32_1572
  let v1165 : BitVec 32 := Scalar.addi c0_i32_1573 v1164
  v1165.toNat
def k0_dev30 (d0 : Dev nD) : Nat :=
  let c0_i32_1587 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1586 : BitVec 32 := 1#32
  let v1174 : BitVec 32 := Scalar.muli v7 c1_i32_1586
  let v1175 : BitVec 32 := Scalar.addi c0_i32_1587 v1174
  v1175.toNat
def k0_dev31 (d0 : Dev nD) : Nat :=
  let c0_i32_1712 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1711 : BitVec 32 := 1#32
  let v1265 : BitVec 32 := Scalar.muli v4 c1_i32_1711
  let v1266 : BitVec 32 := Scalar.addi c0_i32_1712 v1265
  v1266.toNat
def k0_dev32 (d0 : Dev nD) : Nat :=
  let c0_i32_1726 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1725 : BitVec 32 := 1#32
  let v1275 : BitVec 32 := Scalar.muli v7 c1_i32_1725
  let v1276 : BitVec 32 := Scalar.addi c0_i32_1726 v1275
  v1276.toNat
def k0_dev33 (d0 : Dev nD) : Nat :=
  let c0_i32_1810 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1809 : BitVec 32 := 1#32
  let v1327 : BitVec 32 := Scalar.muli v4 c1_i32_1809
  let v1328 : BitVec 32 := Scalar.addi c0_i32_1810 v1327
  v1328.toNat
def k0_dev34 (d0 : Dev nD) : Nat :=
  let c0_i32_1824 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1823 : BitVec 32 := 1#32
  let v1337 : BitVec 32 := Scalar.muli v7 c1_i32_1823
  let v1338 : BitVec 32 := Scalar.addi c0_i32_1824 v1337
  v1338.toNat
def k0_dev35 (d0 : Dev nD) : Nat :=
  let c0_i32_1941 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1940 : BitVec 32 := 1#32
  let v1422 : BitVec 32 := Scalar.muli v4 c1_i32_1940
  let v1423 : BitVec 32 := Scalar.addi c0_i32_1941 v1422
  v1423.toNat
def k0_dev36 (d0 : Dev nD) : Nat :=
  let c0_i32_1955 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1954 : BitVec 32 := 1#32
  let v1432 : BitVec 32 := Scalar.muli v7 c1_i32_1954
  let v1433 : BitVec 32 := Scalar.addi c0_i32_1955 v1432
  v1433.toNat
def k0_dev37 (d0 : Dev nD) : Nat :=
  let c0_i32_2039 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2038 : BitVec 32 := 1#32
  let v1484 : BitVec 32 := Scalar.muli v4 c1_i32_2038
  let v1485 : BitVec 32 := Scalar.addi c0_i32_2039 v1484
  v1485.toNat
def k0_dev38 (d0 : Dev nD) : Nat :=
  let c0_i32_2053 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2052 : BitVec 32 := 1#32
  let v1494 : BitVec 32 := Scalar.muli v7 c1_i32_2052
  let v1495 : BitVec 32 := Scalar.addi c0_i32_2053 v1494
  v1495.toNat
def k0_dev39 (d0 : Dev nD) : Nat :=
  let c0_i32_2193 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2192 : BitVec 32 := 1#32
  let v1608 : BitVec 32 := Scalar.muli v4 c1_i32_2192
  let v1609 : BitVec 32 := Scalar.addi c0_i32_2193 v1608
  v1609.toNat
def k0_dev40 (d0 : Dev nD) : Nat :=
  let c0_i32_2207 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2206 : BitVec 32 := 1#32
  let v1618 : BitVec 32 := Scalar.muli v7 c1_i32_2206
  let v1619 : BitVec 32 := Scalar.addi c0_i32_2207 v1618
  v1619.toNat
def k0_dev41 (d0 : Dev nD) : Nat :=
  let c0_i32_2299 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2298 : BitVec 32 := 1#32
  let v1684 : BitVec 32 := Scalar.muli v4 c1_i32_2298
  let v1685 : BitVec 32 := Scalar.addi c0_i32_2299 v1684
  v1685.toNat
def k0_dev42 (d0 : Dev nD) : Nat :=
  let c0_i32_2313 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2312 : BitVec 32 := 1#32
  let v1694 : BitVec 32 := Scalar.muli v7 c1_i32_2312
  let v1695 : BitVec 32 := Scalar.addi c0_i32_2313 v1694
  v1695.toNat
def k0_dev43 (d0 : Dev nD) : Nat :=
  let c0_i32_2429 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2428 : BitVec 32 := 1#32
  let v1778 : BitVec 32 := Scalar.muli v4 c1_i32_2428
  let v1779 : BitVec 32 := Scalar.addi c0_i32_2429 v1778
  v1779.toNat
def k0_dev44 (d0 : Dev nD) : Nat :=
  let c0_i32_2443 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2442 : BitVec 32 := 1#32
  let v1788 : BitVec 32 := Scalar.muli v7 c1_i32_2442
  let v1789 : BitVec 32 := Scalar.addi c0_i32_2443 v1788
  v1789.toNat
def k0_dev45 (d0 : Dev nD) : Nat :=
  let c0_i32_2527 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2526 : BitVec 32 := 1#32
  let v1840 : BitVec 32 := Scalar.muli v4 c1_i32_2526
  let v1841 : BitVec 32 := Scalar.addi c0_i32_2527 v1840
  v1841.toNat
def k0_dev46 (d0 : Dev nD) : Nat :=
  let c0_i32_2541 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2540 : BitVec 32 := 1#32
  let v1850 : BitVec 32 := Scalar.muli v7 c1_i32_2540
  let v1851 : BitVec 32 := Scalar.addi c0_i32_2541 v1850
  v1851.toNat
def k0_dev47 (d0 : Dev nD) : Nat :=
  let c0_i32_2649 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2648 : BitVec 32 := 1#32
  let v1928 : BitVec 32 := Scalar.muli v4 c1_i32_2648
  let v1929 : BitVec 32 := Scalar.addi c0_i32_2649 v1928
  v1929.toNat
def k0_dev48 (d0 : Dev nD) : Nat :=
  let c0_i32_2663 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2662 : BitVec 32 := 1#32
  let v1938 : BitVec 32 := Scalar.muli v7 c1_i32_2662
  let v1939 : BitVec 32 := Scalar.addi c0_i32_2663 v1938
  v1939.toNat
def k0_dev49 (d0 : Dev nD) : Nat :=
  let c0_i32_2747 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2746 : BitVec 32 := 1#32
  let v1990 : BitVec 32 := Scalar.muli v4 c1_i32_2746
  let v1991 : BitVec 32 := Scalar.addi c0_i32_2747 v1990
  v1991.toNat
def k0_dev50 (d0 : Dev nD) : Nat :=
  let c0_i32_2761 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2760 : BitVec 32 := 1#32
  let v2000 : BitVec 32 := Scalar.muli v7 c1_i32_2760
  let v2001 : BitVec 32 := Scalar.addi c0_i32_2761 v2000
  v2001.toNat
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.Base.lean ====
/-
The ring of four devices, the buffers and semaphores of the kernel, what a
device may hold of a buffer, and the rules by which the kernel's loads, stores
and copies act on what is held.
-/
module

public import proofs.«01_k».proof.Proof.Gen.Kernel
public import proofs.«01_k».proof.Proof.Gen.Kernel.Skeleton
public import proofs.«01_k».proof.Proof.Gen.Kernel.Launch
public import proofs.«01_k».proof.Proof.Gen.Kernel.Points
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
/-- The transfer cells' rounds: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb

abbrev 𝒱₀ : Variants := Variants.none

/-! ## The ring -/

set_option backward.proofsInPublic true in
/-- The next device round the ring, which direction `false` sends to. -/
def nxt (c : Dev nD) : Dev nD := ⟨(c.val + 1) % 4, Nat.mod_lt _ (by decide)⟩
set_option backward.proofsInPublic true in
/-- The previous device round the ring, which direction `true` sends to. -/
def prv (c : Dev nD) : Dev nD := ⟨(c.val + 3) % 4, Nat.mod_lt _ (by decide)⟩
theorem prv_nxt (c : Dev nD) : prv (nxt c) = c := by revert c; decide
theorem nxt_prv (c : Dev nD) : nxt (prv c) = c := by revert c; decide
def ring : Dev nD ≃ Dev nD := ⟨nxt, prv, prv_nxt, nxt_prv⟩

/-- Whom a device sends to in direction `d`, and whom it receives from. -/
def dstOf (d : Bool) (c : Dev nD) : Dev nD := if d then prv c else nxt c
def srcOf (d : Bool) (c : Dev nD) : Dev nD := if d then nxt c else prv c
theorem src_dst (d : Bool) (c : Dev nD) : srcOf d (dstOf d c) = c := by revert d c; decide
theorem dst_src (d : Bool) (c : Dev nD) : dstOf d (srcOf d c) = c := by revert d c; decide
theorem src_not (d : Bool) (c : Dev nD) : srcOf (!d) c = dstOf d c := by revert d c; decide
theorem dst_not (d : Bool) (c : Dev nD) : dstOf (!d) c = srcOf d c := by revert d c; decide

/-! ## The buffers -/

abbrev aX : Memref sig .tc .hbm S4096x1024 .f32 := Memref.whole main_arg0
abbrev aW : Memref sig .tc .hbm S1024x8192 .f32 := Memref.whole main_arg1
abbrev oM : Memref sig .tc .hbm S1024x8192 .f32 := Memref.whole main_v1
abbrev xM : Memref sig .tc .vmem S4096x1024 .bf16 := Memref.whole cc0_scratch0
abbrev wM : Memref sig .tc .vmem S2x2x1024x1024 .bf16 := Memref.whole cc0_scratch1
abbrev gM : Memref sig .tc .vmem S1024x1024 .f32 := Memref.whole cc0_scratch2
/-- The send, receive, next-block and stage buffers of a direction. -/
abbrev sM (d : Bool) : Memref sig .tc .vmem S2x512x1024 .bf16 := match d with | false => Memref.whole cc0_scratch3 | true => Memref.whole cc0_scratch4
abbrev rM (d : Bool) : Memref sig .tc .vmem S4x512x1024 .bf16 := match d with | false => Memref.whole cc0_scratch5 | true => Memref.whole cc0_scratch6
abbrev nM (d : Bool) : Memref sig .tc .vmem S1024x1024 .bf16 := match d with | false => Memref.whole cc0_scratch7 | true => Memref.whole cc0_scratch8
abbrev tM (d : Bool) : Memref sig .tc .vmem S1024x1024 .f32 := match d with | false => Memref.whole cc0_scratch9 | true => Memref.whole cc0_scratch10

/-! ## The rectangles -/

theorem sR_inb (h : Fin 2) : ∀ a, (![h.val, 0, 0] : Fin 3 → ℕ) a + S1x512x1024.size a ≤ S2x512x1024.size a := by revert h; decide
theorem rR_inb (k : Fin 4) : ∀ a, (![k.val, 0, 0] : Fin 3 → ℕ) a + S1x512x1024.size a ≤ S4x512x1024.size a := by revert k; decide
theorem hR_inb (h : Fin 2) : ∀ a, (![512 * h.val, 0] : Fin 2 → ℕ) a + S512x1024.size a ≤ S1024x1024.size a := by revert h; decide
theorem xR_inb (j : Fin 4) : ∀ a, (![1024 * j.val, 0] : Fin 2 → ℕ) a + S1024x1024.size a ≤ S4096x1024.size a := by revert j; decide
theorem wR_inb (u v : Fin 2) : ∀ a, (![u.val, v.val, 0, 0] : Fin 4 → ℕ) a + S1x1x1024x1024.size a ≤ S2x2x1024x1024.size a := by revert u v; decide
theorem oR_inb (n : Fin 8) : ∀ a, (![0, 1024 * n.val] : Fin 2 → ℕ) a + S1024x1024.size a ≤ S1024x8192.size a := by revert n; decide

/-- A half-buffer of a send buffer, a slot of a receive buffer, half the rows
    of a block, a block of rows of `x`, a slot of the weight buffer, a block of columns. -/
abbrev sR (h : Fin 2) : Rect S2x512x1024 := Rect.unit (s := S2x512x1024) ![h.val, 0, 0] S1x512x1024.size (sR_inb h)
abbrev rR (k : Fin 4) : Rect S4x512x1024 := Rect.unit (s := S4x512x1024) ![k.val, 0, 0] S1x512x1024.size (rR_inb k)
abbrev hR (h : Fin 2) : Rect S1024x1024 := Rect.unit (s := S1024x1024) ![512 * h.val, 0] S512x1024.size (hR_inb h)
abbrev xR (j : Fin 4) : Rect S4096x1024 := Rect.unit (s := S4096x1024) ![1024 * j.val, 0] S1024x1024.size (xR_inb j)
abbrev wR (u v : Fin 2) : Rect S2x2x1024x1024 := Rect.unit (s := S2x2x1024x1024) ![u.val, v.val, 0, 0] S1x1x1024x1024.size (wR_inb u v)
abbrev oR (n : Fin 8) : Rect S1024x8192 := Rect.unit (s := S1024x8192) ![0, 1024 * n.val] S1024x1024.size (oR_inb n)
abbrev fR : Rect S1024x1024 := Rect.unit (s := S1024x1024) ![0, 0] S1024x1024.size inb_S1024x1024_S1024x1024_0_0

theorem hz : (![0, 0] : Fin 2 → Nat) = fun _ => 0 := funext fun a => by fin_cases a <;> rfl

/-! ## The semaphores -/

theorem xsem_lt (d r : Bool) (i : Fin 24) : 3 + (if d then 48 else 0) + (if r then 24 else 0) + i.val < 107 := by
  have := i.isLt; split <;> split <;> omega
/-- The semaphore of send (`r = false`) or receive (`r = true`) number `i` in direction `d`. -/
def xsem (d r : Bool) (i : Fin 24) : DmaSem sig := ⟨3 + (if d then 48 else 0) + (if r then 24 else 0) + i.val, xsem_lt d r i⟩
abbrev gsem : DmaSem sig := ⟨2, by decide⟩
/-- The semaphore of the copy out of block `n` of the result. -/
def osem (n : Fin 8) : DmaSem sig := ⟨99 + (2 * (n.val % 4) + n.val / 4), by have := n.isLt; show _ < 107; omega⟩
abbrev barS : Sem sig := (SemArray.scalar (sig.barrier 0 rfl) : Sems sig S_).sem

/-- The direction, side and number of a transfer semaphore, read off its position. -/
def dec (q : ℕ) : Bool × Bool × Fin 24 := (decide (51 ≤ q), decide (24 ≤ (q - 3) % 48), ⟨(q - 3) % 24, Nat.mod_lt _ (by decide)⟩)
theorem dec_xsem (d r : Bool) (i : Fin 24) : dec (xsem d r i).val = (d, r, i) := by revert d r i; decide

abbrev barC (c : Dev nD) : GSem nD τ sig := ((c : Thread nD τ), .reg barS)
abbrev xC (d r : Bool) (i : Fin 24) (c : Dev nD) : GSem nD τ sig := ((c : Thread nD τ), .dma (xsem d r i))
abbrev gC (c : Dev nD) : GSem nD τ sig := ((c : Thread nD τ), .dma gsem)
abbrev oC (n : Fin 8) (c : Dev nD) : GSem nD τ sig := ((c : Thread nD τ), .dma (osem n))

theorem xsem_inj {d r d' r' : Bool} {i i' : Fin 24} (h : xsem d r i = xsem d' r' i') : d = d' ∧ r = r' ∧ i = i' := by
  have := congrArg (fun q : DmaSem sig => dec q.val) h
  simp only [dec_xsem, Prod.mk.injEq] at this
  exact this

/-- The credit of one block of 512 rows. -/
abbrev N : ℕ := (((rM false).slice (rR 0) (fun _ => rfl)).squeeze S512x1024 squeezes_S1x512x1024_S512x1024).view.dmaCredit
theorem N_pos : 0 < N := View.dmaCredit_pos _ (by decide)
theorem N_r (d : Bool) (k : Fin 4) : (((rM d).slice (rR k) (fun _ => rfl)).squeeze S512x1024 squeezes_S1x512x1024_S512x1024).view.dmaCredit = N := by
  cases d <;> rfl
theorem N_s (d : Bool) (h : Fin 2) : (((sM d).slice (sR h) (fun _ => rfl)).squeeze S512x1024 squeezes_S1x512x1024_S512x1024).view.dmaCredit = N := by
  cases d <;> rfl

/-! ## Holding a part of a buffer -/

/-- Device `c` holds the elements of `M` under `R`, which read `v`. -/
def Own {sp : Space} {s : Shape} {e : EltTy} (c : Dev nD) (M : Memref sig .tc sp s e) (R : Rect s) (v : R.shape.Idx → Elt F e) : sProp 𝕄 :=
  iprop(∃ f : Buf (Elt F) (M.view.loc (c : Thread nD τ)), ⌜(M.access R).read (Elt F) f = v⌝ ∗ ((M.access R).loc (c : Thread nD τ) ↦[(M.access R).set]{fullShare} f))
/-- Device `c` holds the elements of `M` under `R`, whatever they read. -/
def Any {sp : Space} {s : Shape} {e : EltTy} (c : Dev nD) (M : Memref sig .tc sp s e) (R : Rect s) : sProp 𝕄 :=
  iprop(∃ f : Buf (Elt F) (M.view.loc (c : Thread nD τ)), ((M.access R).loc (c : Thread nD τ) ↦[(M.access R).set]{fullShare} f))

instance Own_storable {sp : Space} {s : Shape} {e : EltTy} (c : Dev nD) (M : Memref sig .tc sp s e) (R : Rect s) (v) :
    BI.Storable (upEmb : UEmb _ 𝕄) (Own (F := F) c M R v) := by unfold Own; infer_instance
instance Any_storable {sp : Space} {s : Shape} {e : EltTy} (c : Dev nD) (M : Memref sig .tc sp s e) (R : Rect s) :
    BI.Storable (upEmb : UEmb _ 𝕄) (Any (F := F) c M R) := by unfold Any; infer_instance

omit [FloatOps F] in
theorem Own_any {sp : Space} {s : Shape} {e : EltTy} (c : Dev nD) (M : Memref sig .tc sp s e) (R : Rect s) (v) : Own (F := F) c M R v ⊢ Any c M R := by
  unfold Own Any; iintro ⟨%f, -, H⟩; iexists f; iexact H

/-- The weakest precondition on device `c`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

section Rules
variable {α : Type} {s : Shape} {e : EltTy}

theorem wp_load_own (c : Dev nD) {Q : α → sProp 𝕄} {M : Memref sig .tc .vmem s e} {R : Rect s} {v : R.shape.Idx → Elt F e} {hl : M.view.LoadsAt R.toLoadRect}
    {k : (R.shape.Idx → Elt F e) → Prog (TpuEff nD τ sig (Elt F) Λ₀ .tc) α} :
    Own c M R v ⊢ iprop((Own c M R v -∗ WP c (k v) Q) -∗ WP c (.op (.load M R.toLoadRect hl) k) Q) := by
  unfold Own
  iintro ⟨%f, %hf, H⟩ Hk
  subst hf
  iapply (wp_load_rect 𝒱₀ (c : Thread nD τ) none Set.univ (m := M) (Finset.Subset.refl _)) $$ H
  iintro H
  iapply Hk
  iexists f; isplitr
  · ipureintro; rfl
  iexact H

theorem wp_load_any (c : Dev nD) {Q : α → sProp 𝕄} {M : Memref sig .tc .vmem s e} {R : Rect s} {hl : M.view.LoadsAt R.toLoadRect}
    {k : Prog (TpuEff nD τ sig (Elt F) Λ₀ .tc) α} :
    Any c M R ⊢ iprop((Any c M R -∗ WP c k Q) -∗ WP c (.op (.load M R.toLoadRect hl) (fun _ => k)) Q) := by
  unfold Any
  iintro ⟨%f, H⟩ Hk
  iapply (wp_load_rect 𝒱₀ (c : Thread nD τ) none Set.univ (m := M) (Finset.Subset.refl _)) $$ H
  iintro H
  iapply Hk
  iexists f; iexact H

theorem wp_store_any (c : Dev nD) {Q : α → sProp 𝕄} {M : Memref sig .tc .vmem s e} {R : Rect s} {w : R.shape.Idx → Elt F e} {hx : (M.access R).Stores Finset.univ}
    {hm : (Finset.univ : Finset R.shape.Idx) = Finset.univ ∨ ∀ a, R.stride a = 1} {k : PUnit → Prog (TpuEff nD τ sig (Elt F) Λ₀ .tc) α} :
    Any c M R ⊢ iprop((Own c M R w -∗ WP c (k ⟨⟩) Q) -∗ WP c (.op (.store M R w Finset.univ hx hm) k) Q) := by
  unfold Any Own
  iintro ⟨%f, H⟩ Hk
  iapply (wp_store 𝒱₀ (c : Thread nD τ) none Set.univ (m := M) (r := R) (Mk := Finset.univ) (S := (M.access R).set) (Finset.Subset.refl _)) $$ H
  iintro H
  iapply Hk
  iexists ((M.access R).write (Elt F) f w Finset.univ); isplitr
  · ipureintro; exact View.read_write_univ (v := M.access R) f w
  iexact H

end Rules

end Cert.KernelProof

end
-- ==== Proof.Sched.lean ====
/-
What each device computes and sends, and the protocol of the transfers: which
cells there are, what each receives, and what comes with it.
-/
module

public import proofs.«01_k».proof.Proof.Base

@[expose] public section

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-! ## Contents -/

set_option backward.proofsInPublic true in
/-- The block of rows `r` places round the ring from the device's own. -/
def xj (r : ℕ) (c : Dev nD) : Fin 4 := ⟨(c.val + r) % 4, Nat.mod_lt _ (by decide)⟩
/-- The block of rows device `c` works on at step `s` of a pass, in direction `d`. -/
def ch (d : Bool) (s : ℕ) (c : Dev nD) : Fin 4 := xj (if d then s + 1 else 3 - s) c
set_option backward.proofsInPublic true in
/-- The block of columns of pass `p` in direction `d`. -/
def col (d : Bool) (p : Fin 4) : Fin 8 := ⟨p.val + if d then 4 else 0, by have := p.isLt; split <;> omega⟩

/-- A block of rows of `x`, a block of columns of the weights, as the kernel keeps them. -/
def xch (c : Dev nD) (j : Fin 4) : Vec F S1024x1024 .bf16 :=
  k0_pay4 ((aX.access (xR j)).read (Elt F) (m ((c : Thread nD τ).loc main_arg0)))
def wch (c : Dev nD) (n : Fin 8) : Vec F S1x1x1024x1024 .bf16 :=
  k0_pay2 ((aW.access (oR n)).read (Elt F) (m ((c : Thread nD τ).loc main_arg1)))
/-- Their product, rounded, and the product kept at full precision. -/
def prt (c : Dev nD) (j : Fin 4) (n : Fin 8) : Vec F S1024x1024 .bf16 := k0_pay7 (xch m c j) (wch m c n)
def prtF (c : Dev nD) (j : Fin 4) (n : Fin 8) : Vec F S1024x1024 .f32 := k0_pay30 (xch m c j) (wch m c n)
/-- Half the rows of a block. -/
def rows (h : Fin 2) (w : Vec F S1024x1024 .bf16) : Vec F S512x1024 .bf16 := ((nM false).access (hR h)).read (Elt F) w
def rowsF (h : Fin 2) (w : Vec F S1024x1024 .f32) : Vec F S512x1024 .f32 := ((tM false).access (hR h)).read (Elt F) w
def setRowsF (h : Fin 2) (t : Vec F S1024x1024 .f32) (w : Vec F S512x1024 .f32) : Vec F S1024x1024 .f32 :=
  ((tM false).access (hR h)).write (Elt F) t w Finset.univ

/-- What device `c` sends at step `s`: its product at step 0, and from then on
    its product plus what it received. -/
def sentAt (d : Bool) (p : Fin 4) (h : Fin 2) : ℕ → Dev nD → Vec F S1x512x1024 .bf16
  | 0, c => k0_pay9 (rows h (prt m c (ch d 0 c) (col d p)))
  | s + 1, c => k0_pay17 (rows h (prt m c (ch d (s + 1) c) (col d p))) (sentAt d p h s (srcOf d c))

set_option backward.proofsInPublic true in
/-- The pass, the step and the half of transfer `i`. -/
def pOf (i : Fin 24) : Fin 4 := ⟨i.val / 6, by have := i.isLt; omega⟩
def stOf (i : Fin 24) : ℕ := i.val / 2 % 3
set_option backward.proofsInPublic true in
def hOf (i : Fin 24) : Fin 2 := ⟨i.val % 2, Nat.mod_lt _ (by decide)⟩
set_option backward.proofsInPublic true in
/-- The receive slot of transfer `i`, and of transfer `i + 2`. -/
def slot (i : Fin 24) : Fin 4 := ⟨i.val % 4, Nat.mod_lt _ (by decide)⟩
set_option backward.proofsInPublic true in
def slot2 (i : Fin 24) : Fin 4 := ⟨(i.val + 2) % 4, Nat.mod_lt _ (by decide)⟩

/-- What device `c` sends in transfer `i`. -/
def sent (d : Bool) (i : Fin 24) (c : Dev nD) : Vec F S1x512x1024 .bf16 := sentAt m d (pOf i) (hOf i) (stOf i) c

/-! ## The protocol -/

/-- The elements a send gives back to the sender. -/
def sendPay (d : Bool) (i : Fin 24) (c : Dev nD) : sProp 𝕄 := Any c (sM d) (sR (hOf i))
/-- What lands with transfer `i`; and, from the second step to the one before the last, the sender's
    receive slot of the other direction that `c` sends into next. -/
def recvPay (d : Bool) (i : Fin 24) (c : Dev nD) : sProp 𝕄 :=
  iprop(Own c (rM d) (rR (slot i)) (sent m d i (srcOf d c))
    ∗ if 2 ≤ i.val ∧ i.val < 22 then Any (srcOf d c) (rM !d) (rR (slot2 i)) else iprop(emp))
/-- The four receive slots device `c` sends into in direction `d`. -/
def barPay (d : Bool) (c : Dev nD) : sProp 𝕄 :=
  iprop(Any (dstOf d c) (rM d) (rR 0) ∗ Any (dstOf d c) (rM d) (rR 1) ∗ Any (dstOf d c) (rM d) (rR 2) ∗ Any (dstOf d c) (rM d) (rR 3))

instance sendPay_storable (d : Bool) (i : Fin 24) (c : Dev nD) : BI.Storable (upEmb : UEmb _ 𝕄) (sendPay (F := F) d i c) := by
  unfold sendPay; infer_instance
instance recvPay_storable (d : Bool) (i : Fin 24) (c : Dev nD) : BI.Storable (upEmb : UEmb _ 𝕄) (recvPay (F := F) m d i c) := by
  unfold recvPay; split <;> infer_instance
instance barPay_storable (d : Bool) (c : Dev nD) : BI.Storable (upEmb : UEmb _ 𝕄) (barPay (F := F) d c) := by
  unfold barPay; infer_instance

/-- Whether a semaphore is a transfer's. -/
def isX : SemLoc sig → Bool
  | .dma q => decide (3 ≤ q.val ∧ q.val < 99)
  | .reg _ => false

/-- What a transfer semaphore of device `c` hands its owner. -/
def xPay (t : Bool × Bool × Fin 24) (c : Dev nD) : sProp 𝕄 := if t.2.1 then recvPay m t.1 t.2.2 c else sendPay t.1 t.2.2 c
instance xPay_storable (t : Bool × Bool × Fin 24) (c : Dev nD) : BI.Storable (upEmb : UEmb _ 𝕄) (xPay (F := F) m t c) := by
  unfold xPay; split <;> infer_instance

def semPay (d : Bool) (c : Dev nD) : SemLoc sig → sProp 𝕄
  | .dma q => xPay m (dec q.val) c
  | .reg _ => barPay d c
instance semPay_storable (d : Bool) (c : Dev nD) (q : SemLoc sig) : BI.Storable (upEmb : UEmb _ 𝕄) (semPay (F := F) m d c q) := by
  cases q <;> (unfold semPay; infer_instance)

def Rd : Rounds.Schedule (GSem nD τ sig) Bool 𝕄 where
  duties g r := if r = 0 ∧ g.1.2 = .tc ∧ g.2 = .reg barS then Finset.univ else if r = 0 ∧ g.1.2 = .tc ∧ isX g.2 = true then {false} else ∅
  unitless _ := False
  amount g _ _ := if g.2 = .reg barS then 1 else N
  payload g _ d := semPay m d g.1.1 g.2
  amount_pos g _ _ _ := by
    by_cases h : g.2 = .reg barS
    · rw [if_pos h]; exact Nat.one_pos
    · rw [if_neg h]; exact N_pos

instance Rd_payload_storable (g : GSem nD τ sig) (r : ℕ) (d : Bool) :
    BI.Storable (upEmb : UEmb _ 𝕄) ((Rd (F := F) m).payload g r d) := by
  show BI.Storable upEmb (semPay m d g.1.1 g.2); infer_instance

section Facts
variable (c : Dev nD) (d r : Bool) (i : Fin 24)

theorem isX_xsem : isX (.dma (xsem d r i)) = true := by revert d r i; decide

theorem duties_bar : (Rd (F := F) m).duties (barC c) 0 = Finset.univ := by dsimp only [Rd]; exact if_pos ⟨rfl, rfl, rfl⟩
theorem duties_x : (Rd (F := F) m).duties (xC d r i c) 0 = {false} := by
  dsimp only [Rd]; rw [if_neg (fun h => by cases h.2.2)]
  exact if_pos ⟨rfl, rfl, isX_xsem d r i⟩
theorem duties_later (g : GSem nD τ sig) : ∀ r, 1 ≤ r → (Rd (F := F) m).duties g r = ∅ :=
  fun r hr => by dsimp only [Rd]; rw [if_neg fun h => by omega, if_neg fun h => by omega]
theorem amount_bar (b : Bool) : (Rd (F := F) m).amount (barC c) 0 b = 1 := by dsimp only [Rd]; exact if_pos rfl
theorem amount_x (b : Bool) : (Rd (F := F) m).amount (xC d r i c) 0 b = N := by
  dsimp only [Rd]; exact if_neg (fun h => by cases h)
theorem expect_bar : (Rd (F := F) m).expect (barC c) 0 = 2 := by
  unfold Schedule.expect Schedule.amountOf
  rw [duties_bar, Finset.sum_congr rfl fun b _ => amount_bar m c b, Finset.sum_const, Finset.card_univ, Fintype.card_bool, smul_eq_mul]
theorem expect_x : (Rd (F := F) m).expect (xC d r i c) 0 = N := by
  unfold Schedule.expect Schedule.amountOf; rw [duties_x, Finset.sum_singleton, amount_x]
theorem payload_bar (b : Bool) : (Rd (F := F) m).payload (barC c) 0 b = barPay b c := rfl
theorem payload_send (b : Bool) : (Rd (F := F) m).payload (xC d false i c) 0 b = sendPay d i c := by
  show xPay m (dec (xsem d false i).val) c = _; rw [dec_xsem]; unfold xPay; exact if_neg Bool.false_ne_true
theorem payload_recv (b : Bool) : (Rd (F := F) m).payload (xC d true i c) 0 b = recvPay m d i c := by
  show xPay m (dec (xsem d true i).val) c = _; rw [dec_xsem]; unfold xPay; exact if_pos rfl
theorem rest_bar : bigSep ((Rd (F := F) m).duties (barC c) 0 \ ∅) (fun b => (Rd (F := F) m).payload (barC c) 0 b) = iprop(barPay false c ∗ barPay true c) := by
  rw [Finset.sdiff_empty, duties_bar, bigSep_univ_eq_bigSepL [false, true] (by decide) (by decide), bigSepL_cons_cons, bigSepL_singleton]
  rfl
theorem rest_x : bigSep ((Rd (F := F) m).duties (xC d r i c) 0 \ ∅) (fun b => (Rd (F := F) m).payload (xC d r i c) 0 b)
      = (Rd (F := F) m).payload (xC d r i c) 0 false := by
  rw [Finset.sdiff_empty, duties_x, bigSep_singleton]
end Facts

/-! ## What a device owes; the levels -/

/-- The receive credits device `c` owes for transfer `i`. -/
def owe1 (c : Dev nD) (i : Fin 24) : CellTallies nD τ sig Unit :=
  tallyAt (xC true true i (dstOf true c)) () N + tallyAt (xC false true i (dstOf false c)) () N
/-- What device `c` owes once its transfers below `k` are sent. -/
def OO (k : ℕ) (c : Dev nD) : CellTallies nD τ sig Unit := ∑ i ∈ Finset.univ.filter (fun i : Fin 24 => k ≤ i.val), owe1 c i
def O₁ (c : Dev nD) : CellTallies nD τ sig Unit := OO 0 c + tallyAt (barC (nxt c)) () 1
def O₀ (c : Dev nD) : CellTallies nD τ sig Unit := O₁ c + tallyAt (barC (prv c)) () 1

theorem OO_step (i : Fin 24) (c : Dev nD) :
    OO i.val c = (OO (i.val + 1) c + tallyAt (xC true true i (dstOf true c)) () N) + tallyAt (xC false true i (dstOf false c)) () N := by
  have h : (Finset.univ.filter fun j : Fin 24 => i.val ≤ j.val) = insert i (Finset.univ.filter fun j : Fin 24 => i.val + 1 ≤ j.val) := by
    ext j; simp only [Finset.mem_filter, Finset.mem_univ, true_and, Finset.mem_insert, Fin.ext_iff]; omega
  unfold OO
  rw [h, Finset.sum_insert (by simp), owe1, add_comm, add_assoc]
theorem OO_last (k : ℕ) (hk : 24 ≤ k) (c : Dev nD) : OO k c = 0 := by
  unfold OO
  rw [Finset.filter_false_of_mem (fun i _ => by have := i.isLt; omega), Finset.sum_empty]

def L (g : GSem nD τ sig) : Finset Unit := if g.1.2 = .tc then {()} else ∅
/-- Barrier cells at level 1, the receive cell of transfer `i` at `2 + i`, every other cell at 0. -/
def lvS : SemLoc sig → ℕ
  | .dma q => if isX (.dma q) && (dec q.val).2.1 then 2 + (dec q.val).2.2.val else 0
  | .reg _ => 1
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl
theorem lvS_recv (d : Bool) (i : Fin 24) : lvS (.dma (xsem d true i)) = 2 + i.val := by
  simp only [lvS, isX_xsem, dec_xsem]; rfl
theorem lvS_send (d : Bool) (i : Fin 24) : lvS (.dma (xsem d false i)) = 0 := by
  simp only [lvS, isX_xsem, dec_xsem]; rfl
theorem lvS_g : lvS (.dma gsem) = 0 := by decide
theorem lvS_o (n : Fin 8) : lvS (.dma (osem n)) = 0 := by revert n; decide

theorem owe1_pos {c : Dev nD} {i : Fin 24} {g : GSem nD τ sig} {u : Unit} (h : 0 < owe1 c i g u) : ∃ d, g = xC d true i (dstOf d c) := by
  unfold owe1 at h
  rw [Pi.add_apply, Finsupp.add_apply, tallyAt_apply, tallyAt_apply] at h
  by_contra hn
  simp only [not_exists, not_and] at hn
  rw [if_neg (fun h' => hn true h'.1), if_neg (fun h' => hn false h'.1)] at h
  exact Nat.lt_irrefl 0 h
theorem OO_pos {k : ℕ} {c : Dev nD} {g : GSem nD τ sig} {u : Unit} (h : 0 < OO k c g u) : ∃ d, ∃ i : Fin 24, k ≤ i.val ∧ g = xC d true i (dstOf d c) := by
  unfold OO at h
  rw [Finset.sum_apply, Finsupp.finset_sum_apply] at h
  by_contra hn
  simp only [not_exists, not_and] at hn
  rw [Finset.sum_eq_zero (fun i hi => by
    by_contra h0
    obtain ⟨d, hd⟩ := owe1_pos (Nat.pos_of_ne_zero h0)
    exact hn d i (Finset.mem_filter.mp hi).2 hd)] at h
  exact Nat.lt_irrefl 0 h
theorem O₀_pos {c : Dev nD} {g : GSem nD τ sig} {u : Unit} (h : 0 < O₀ c g u) :
    (∃ d, ∃ i : Fin 24, g = xC d true i (dstOf d c)) ∨ ∃ e, g = barC e := by
  unfold O₀ O₁ at h
  rw [Pi.add_apply, Finsupp.add_apply, Pi.add_apply, Finsupp.add_apply, tallyAt_apply, tallyAt_apply] at h
  by_contra hn; rw [not_or] at hn
  rw [if_neg (fun h' => hn.2 ⟨_, h'.1⟩), if_neg (fun h' => hn.2 ⟨_, h'.1⟩)] at h
  simp only [Nat.add_zero] at h
  obtain ⟨d, i, -, hd⟩ := OO_pos h
  exact hn.1 ⟨d, i, hd⟩

/-- A cell whose level is below the receive cells still owed may be waited for. -/
theorem mayWait (c : Dev nD) (q : SemLoc sig) (k : ℕ) (hq : lvS q < 2 + k) :
    (levAts L lv : sProp 𝕄) ⊢ MayWait (c : Thread nD τ) q () (OO k c) :=
  MayOwe.of_cut (L := L) (lev := lv) (lvS q) (fun p hp => by rw [Finset.mem_singleton.mp hp, L_tc]; exact Finset.mem_singleton_self _)
    (fun g u hg => by obtain ⟨d, i, -, rfl⟩ := OO_pos hg; exact Finset.mem_singleton_self _)
    (fun p hp => by rw [Finset.mem_singleton.mp hp]; exact le_refl _)
    (fun g u hg => by
      obtain ⟨d, i, hi, rfl⟩ := OO_pos hg
      show lvS q < lvS (.dma (xsem d true i)); rw [lvS_recv]; omega)

/-- The copies of the two scales are waited for before anything is sent, or at the end. -/
theorem mayWait_stage (c : Dev nD) (q : DmaSem sig) (hq : lvS (.dma q) = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, i, rfl⟩ | ⟨e, rfl⟩ <;> exact Finset.mem_singleton_self _)
      (fun p hp => by rw [Finset.mem_singleton.mp hp]; exact Nat.le_of_eq hq)
      (fun g u hg => by
        rcases O₀_pos hg with ⟨d, i, rfl⟩ | ⟨e, rfl⟩
        · show 0 < lvS (.dma (xsem d true i)); rw [lvS_recv]; omega
        · exact Nat.one_pos)
  · rw [MayWait_zero]; iintro -; iempintro

end Cert.KernelProof

end
-- ==== Proof.Half.lean ====
/-
The rules of one transfer: waiting for it and sending it; what a device keeps
of a transfer before it is sent, while it is under way and once it is over.
-/
module

public import proofs.«01_k».proof.Proof.Sched
public import Idealize.ShloMosaic.Lib.ViewIndex

@[expose] public section

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells, and what every device knows of them -/

abbrev KI : Type := Option (Bool × Bool × Fin 24)
/-- The cells of a device: the barrier's, and one for each transfer semaphore. -/
def kcell (p : Dev nD × KI) : GSem nD τ sig := match p.2 with
  | none => barC p.1
  | some (d, r, i) => xC d r i p.1
theorem kcell_injective : Function.Injective kcell := by
  rintro ⟨c, k⟩ ⟨c', k'⟩ h
  have h1 : c = c' := by
    have := congrArg (fun g : GSem nD τ sig => g.1.1) h
    rcases k with _ | ⟨d, r, i⟩ <;> rcases k' with _ | ⟨d', r', i'⟩ <;> exact this
  subst h1
  rcases k with _ | ⟨d, r, i⟩ <;> rcases k' with _ | ⟨d', r', i'⟩
  · rfl
  · exact absurd (congrArg Prod.snd h) (fun h' => by cases h')
  · exact absurd (congrArg Prod.snd h) (fun h' => by cases h')
  · have h2 : SemLoc.dma (xsem d r i) = SemLoc.dma (xsem d' r' i') := congrArg Prod.snd h
    obtain ⟨rfl, rfl, rfl⟩ := xsem_inj (SemLoc.dma.inj h2)
    rfl
def ringCells : Finset (GSem nD τ sig) := Finset.univ.map ⟨kcell, kcell_injective⟩
theorem bar_mem (c : Dev nD) : barC c ∈ ringCells := Finset.mem_map.mpr ⟨(c, none), Finset.mem_univ _, rfl⟩
theorem x_mem (d r : Bool) (i : Fin 24) (c : Dev nD) : xC d r i c ∈ ringCells :=
  Finset.mem_map.mpr ⟨(c, some (d, r, i)), Finset.mem_univ _, rfl⟩

/-- The cells' invariants, that round 0 of each is reached, and the levels. -/
def Ctx (K : GSem nD τ sig → ℕ) : sProp 𝕄 :=
  iprop((bigSep ringCells fun g => cellInv ER (Rd m) (K g) g) ∗ (bigSep ringCells fun g => reached ER g 0) ∗ levAts L lv)
instance Ctx_persistent (K : GSem nD τ sig → ℕ) : BI.Persistent (Ctx (F := F) m K) := by unfold Ctx; infer_instance

variable (K : GSem nD τ sig → ℕ)

theorem sinv_elim {g : GSem nD τ sig} (hg : g ∈ ringCells) :
    (bigSep ringCells fun g => (cellInv ER (Rd m) (K g) g : sProp 𝕄)) ⊢ cellInv ER (Rd m) (K g) g := BI.bigSep_elim hg
theorem reached_elim {g : GSem nD τ sig} (hg : g ∈ ringCells) :
    (bigSep ringCells fun g => (reached ER g 0 : sProp 𝕄)) ⊢ reached ER g 0 := BI.bigSep_elim hg

theorem ctx_inv {g : GSem nD τ sig} (hg : g ∈ ringCells) : Ctx (F := F) m K ⊢ cellInv ER (Rd m) (K g) g := by
  unfold Ctx; iintro ⟨#H, -, -⟩; iapply (sinv_elim m K hg); iexact H
theorem ctx_reached {g : GSem nD τ sig} (hg : g ∈ ringCells) : Ctx (F := F) m K ⊢ reached ER g 0 := by
  unfold Ctx; iintro ⟨-, #H, -⟩; iapply (reached_elim hg); iexact H
theorem ctx_lev : Ctx (F := F) m K ⊢ levAts L lv := by
  unfold Ctx; iintro ⟨-, -, #H⟩; iexact H

/-- What device `c` still owes, whatever it has waited for. -/
def Ow (n : ℕ) (c : Dev nD) : sProp 𝕄 := iprop(∃ W, owes (c : Thread nD τ) (OO n c) W)

theorem any_elim {sp : Space} {s : Shape} {e : EltTy} (c : Dev nD) (M : Memref sig .tc sp s e) (R : Rect s) :
    Any (F := F) c M R ⊢ iprop(∃ f : Buf (Elt F) (M.view.loc (c : Thread nD τ)), ((M.access R).loc (c : Thread nD τ) ↦[(M.access R).set]{fullShare} f)) :=
  BI.Entails.refl _

section Rules
variable {α : Type}

/-- A wait for a transfer: its payload, and its cell closed. -/
theorem wp_wait_x (c : Dev nD) (d r : Bool) (i : Fin 24) (n : ℕ) (hn : lvS (.dma (xsem d r i)) < 2 + n) {Q : α → sProp 𝕄}
    {s s' : Shape} {src : Memref sig .tc .vmem s .bf16} {dst : Memref sig .tc .vmem s' .bf16}
    {hsrc : src.view.WordExact} {hdst : dst.view.WordExact} (hN : dst.view.dmaCredit = N)
    {k : PUnit → Prog (TpuEff nD τ sig (Elt F) Λ₀ .tc) α} :
    iprop(Ctx m K ∗ cred (tallyAt (xC d r i c) () N) ∗ atPos ER (xC d r i c) 0 ∅ 0 ∗ Ow n c)
      ⊢ iprop(((Ow n c ∗ semVal (xC d r i c) 0 ∗ (Rd m).payload (xC d r i c) 0 false) -∗ WP c (k ⟨⟩) Q)
          -∗ WP c (.op (.waitDma2 (xsem d r i) src dst hsrc hdst) k) Q) := by
  unfold Ow
  iintro ⟨#HC, Hc, Hat, ⟨%W, HO⟩⟩ Hk
  iapply (Rounds.wp_wait_rest_token 𝒱₀ ER (Rd m) (c : Thread nD τ) none (κ := K (xC d r i c))
      (wpE_waitDma2_eq 𝒱₀ (c : Thread nD τ) none Set.univ) (Set.mem_univ _) () (O := OO n c) (W := W) (R := 0) (m := 0) (T := ∅)
      (by rw [Nat.zero_add, hN, expect_x])) $$ [Hc HO Hat]
  · rw [hN]
    isplitr; · iapply (ctx_inv m K (x_mem d r i c)); iexact HC
    isplitl [Hc]; · iexact Hc
    isplitl [HO]; · iexact HO
    isplitr
    · iapply (mayWait c _ n hn); iapply (ctx_lev m K); iexact HC
    iexact Hat
  iintro ⟨HO, Hat, -, Hpay⟩
  imod (Rounds.cell_close ER (Rd m) (Set.mem_univ (K (xC d r i c))) (fun h => h) (R := 0 + 1) (duties_later m (xC d r i c))) $$ [Hat] with Hz
  · isplitr; · iapply (ctx_inv m K (x_mem d r i c)); iexact HC
    iexact Hat
  iapply Hk
  isplitl [HO]; · iexists _; iexact HO
  isplitl [Hz]; · iexact Hz
  iapply (Entails.of_eq (rest_x m c d r i)); iexact Hpay

/-- After a copy between two blocks written alike the target reads what the source reads. -/
theorem read_copied {sp sp' : Space} {s t : Shape} {e : EltTy} (v : View sig .tc sp s e) (v' : View sig .tc sp' s e)
    (h : t.numel = s.numel) (f : v.ty.Contents (Elt F)) (g : v'.ty.Contents (Elt F)) :
    v.read (Elt F) ((v.reshape t h).write (Elt F) f ((v'.reshape t h).read (Elt F) g) Finset.univ) = v'.read (Elt F) g := by
  funext y
  obtain ⟨x, rfl⟩ := (Shape.reshapeEquiv h).surjective y
  exact View.read_write_reshape v h f _ x

/-- Sending transfer `i` in direction `d`. -/
theorem wp_send_x (c : Dev nD) (d : Bool) (i : Fin 24) {n : Dev nD} (hn : n = dstOf d c) {Q : α → sProp 𝕄} (O : CellTallies nD τ sig Unit)
    {O' : CellTallies nD τ sig Unit} (hO : O' = O + tallyAt (xC d true i (dstOf d c)) () N)
    {hsc : (((rM d).slice (rR (slot i)) (fun _ => rfl)).squeeze S512x1024 squeezes_S1x512x1024_S512x1024).view.ref.isScScratch = false}
    {hsrc : (((sM d).slice (sR (hOf i)) (fun _ => rfl)).squeeze S512x1024 squeezes_S1x512x1024_S512x1024).view.WordExact}
    {hdst : (((rM d).slice (rR (slot i)) (fun _ => rfl)).squeeze S512x1024 squeezes_S1x512x1024_S512x1024).view.WordExact}
    {hsem : DmaTarget.Typed .vmem (.dma (xsem d true i)) (.remote (Dev.tc n : Thread nD τ) (((rM d).slice (rR (slot i)) (fun _ => rfl)).squeeze S512x1024 squeezes_S1x512x1024_S512x1024) (.dma (xsem d false i)) hsc)}
    {k : PUnit → Prog (TpuEff nD τ sig (Elt F) Λ₀ .tc) α} :
    iprop(Ctx m K ∗ Own c (sM d) (sR (hOf i)) (sent m d i c) ∗ Any (dstOf d c) (rM d) (rR (slot i))
        ∗ (if 2 ≤ i.val ∧ i.val < 22 then Any c (rM !d) (rR (slot2 i)) else iprop(emp))
        ∗ dutyTok ER (xC d false i c) 0 false ∗ dutyTok ER (xC d true i (dstOf d c)) 0 false ∗ ∃ W, owes (c : Thread nD τ) O' W)
      ⊢ iprop(((cred (tallyAt (xC d false i c) () N) ∗ ∃ W, owes (c : Thread nD τ) O W) -∗ WP c (k ⟨⟩) Q)
          -∗ WP c (.op (.enqueueDma (((sM d).slice (sR (hOf i)) (fun _ => rfl)).squeeze S512x1024 squeezes_S1x512x1024_S512x1024)
              (.remote (Dev.tc n : Thread nD τ) (((rM d).slice (rR (slot i)) (fun _ => rfl)).squeeze S512x1024 squeezes_S1x512x1024_S512x1024) (.dma (xsem d false i)) hsc)
              (.dma (xsem d true i)) hsrc hdst hsem) k) Q) := by
  subst hn
  unfold Own
  iintro ⟨#HC, ⟨%f, %hf, Hs⟩, Hd, HF, Ht1, Ht2, ⟨%W, HO⟩⟩ Hk
  ihave Hd := (any_elim (dstOf d c) (rM d) (rR (slot i))) $$ Hd
  icases Hd with ⟨%g, Hd⟩
  iapply (Rounds.wp_send_pointsTo_with 𝒱₀ ER (Rd m) (c : Thread nD τ) none (κ₁ := K (xC d false i c)) (κ₂ := K (xC d true i (dstOf d c)))
    (r₁ := 0) (r₂ := 0) (d₁ := false) (d₂ := false) (fd := g) (fs := f) (q := fullShare)
    (src := ((sM d).slice (sR (hOf i)) (fun _ => rfl)).squeeze S512x1024 squeezes_S1x512x1024_S512x1024)
    (c' := (Dev.tc (dstOf d c) : Thread nD τ)) (sS := .dma (xsem d false i)) (sem := .dma (xsem d true i))
    (dst := ((rM d).slice (rR (slot i)) (fun _ => rfl)).squeeze S512x1024 squeezes_S1x512x1024_S512x1024)
    (F := if 2 ≤ i.val ∧ i.val < 22 then Any c (rM !d) (rR (slot2 i)) else iprop(emp))
    (by rw [duties_x]; exact Finset.mem_singleton_self _) (by rw [duties_x]; exact Finset.mem_singleton_self _)
    () () N (N_r d (slot i)) (amount_x m c d false i false) (amount_x m (dstOf d c) d true i false) O hO (W := W)
    (by rw [payload_send]; unfold sendPay Any; refine exists_intro_trans f ?_; rw [show (((sM d).slice (sR (hOf i)) (fun _ => rfl)).squeeze S512x1024 squeezes_S1x512x1024_S512x1024).view.set = ((sM d).access (sR (hOf i))).set from View.set_reshape _ _])
    (by
      rw [payload_recv]; unfold recvPay
      rw [src_dst]
      refine sep_mono_left ?_
      unfold Own
      iintro H
      iexists ((((rM d).slice (rR (slot i)) (fun _ => rfl)).squeeze S512x1024 squeezes_S1x512x1024_S512x1024).view.write (Elt F) g
        ((((sM d).slice (sR (hOf i)) (fun _ => rfl)).squeeze S512x1024 squeezes_S1x512x1024_S512x1024).view.read (Elt F) f) Finset.univ)
      isplitr
      · ipureintro
        rw [← hf]
        exact read_copied ((rM d).access (rR (slot i))) ((sM d).access (sR (hOf i))) _ g f
      rw [show (((rM d).slice (rR (slot i)) (fun _ => rfl)).squeeze S512x1024 squeezes_S1x512x1024_S512x1024).view.set = ((rM d).access (rR (slot i))).set from View.set_reshape _ _]
      iexact H)) $$ [Hs Hd HF Ht1 Ht2 HO]
  · isplitr; · iapply (ctx_inv m K (x_mem d false i c)); iexact HC
    isplitr; · iapply (ctx_inv m K (x_mem d true i (dstOf d c))); iexact HC
    rw [show (((sM d).slice (sR (hOf i)) (fun _ => rfl)).squeeze S512x1024 squeezes_S1x512x1024_S512x1024).view.set = ((sM d).access (sR (hOf i))).set from View.set_reshape _ _,
      show (((rM d).slice (rR (slot i)) (fun _ => rfl)).squeeze S512x1024 squeezes_S1x512x1024_S512x1024).view.set = ((rM d).access (rR (slot i))).set from View.set_reshape _ _]
    isplitl [Hs]; · iexact Hs
    isplitl [Hd HF]; · isplitl [Hd] <;> iassumption
    isplitl [HO]; · iexact HO
    isplitl [Ht1]; · iexact Ht1
    isplitr; · iapply (ctx_reached m K (x_mem d false i c)); iexact HC
    isplitl [Ht2]; · iexact Ht2
    iapply (ctx_reached m K (x_mem d true i (dstOf d c))); iexact HC
  iintro ⟨Hc, HO⟩
  iapply Hk
  isplitl [Hc]; · iexact Hc
  iexists _; iexact HO

end Rules

end Cert.KernelProof

end
-- ==== Proof.Steps.lean ====
/-
The steps the kernel is made of, each as one rule: loading a block, multiplying
two blocks, half a ring step of each kind, copying a block of the result out.
-/
module

public import proofs.«01_k».proof.Proof.Half

@[expose] public section

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : GSem nD τ sig → ℕ)

/-! ## What a device keeps of the transfers -/

/-- Of a transfer yet to be sent. -/
def UnX (d : Bool) (c : Dev nD) (i : Fin 24) : sProp 𝕄 :=
  iprop((dutyTok ER (xC d false i c) 0 false ∗ dutyTok ER (xC d true i (dstOf d c)) 0 false)
    ∗ (atPos ER (xC d false i c) 0 ∅ 0 ∗ atPos ER (xC d true i c) 0 ∅ 0 ∗ cred (tallyAt (xC d true i c) () N))
    ∗ (if i.val < 4 then Any (dstOf d c) (rM d) (rR (slot i)) else iprop(emp))
    ∗ (if i.val < 2 then Any c (sM d) (sR (hOf i)) else iprop(emp)))
/-- Of a transfer under way. -/
def PeX (d : Bool) (c : Dev nD) (i : Fin 24) : sProp 𝕄 :=
  iprop((atPos ER (xC d false i c) 0 ∅ 0 ∗ atPos ER (xC d true i c) 0 ∅ 0 ∗ cred (tallyAt (xC d true i c) () N)) ∗ cred (tallyAt (xC d false i c) () N))
/-- Of a transfer that is over. -/
def ClX (d : Bool) (c : Dev nD) (i : Fin 24) : sProp 𝕄 :=
  iprop((semVal (xC d false i c) 0 ∗ semVal (xC d true i c) 0)
    ∗ (if 20 ≤ i.val then Any c (rM d) (rR (slot i)) else iprop(emp))
    ∗ (if 22 ≤ i.val then Any c (sM d) (sR (hOf i)) else iprop(emp)))

def Pe2 (i : Fin 24) (c : Dev nD) : sProp 𝕄 := iprop(PeX false c i ∗ PeX true c i)
/-- The transfers from number `k` on, yet to be sent. -/
def Un2 (k : ℕ) (c : Dev nD) : sProp 𝕄 := bigSep (Finset.univ.filter fun i : Fin 24 => k ≤ i.val) fun i => iprop(UnX false c i ∗ UnX true c i)
/-- The transfers below number `k`, over. -/
def Cl2 (k : ℕ) (c : Dev nD) : sProp 𝕄 := bigSep (Finset.univ.filter fun i : Fin 24 => i.val < k) fun i => iprop(ClX false c i ∗ ClX true c i)

theorem un_step (i : Fin 24) (c : Dev nD) : Un2 (F := F) i.val c ⊢ iprop((UnX false c i ∗ UnX true c i) ∗ Un2 (i.val + 1) c) := by
  have h : (Finset.univ.filter fun j : Fin 24 => i.val ≤ j.val) = insert i (Finset.univ.filter fun j : Fin 24 => i.val + 1 ≤ j.val) := by
    ext j; simp only [Finset.mem_filter, Finset.mem_univ, true_and, Finset.mem_insert, Fin.ext_iff]; omega
  unfold Un2
  rw [h, BI.bigSep_insert (by simp)]
  exact BI.Entails.refl _
theorem cl_step (i : Fin 24) (c : Dev nD) : iprop((ClX false c i ∗ ClX true c i) ∗ Cl2 (F := F) i.val c) ⊢ Cl2 (i.val + 1) c := by
  have h : (Finset.univ.filter fun j : Fin 24 => j.val < i.val + 1) = insert i (Finset.univ.filter fun j : Fin 24 => j.val < i.val) := by
    ext j; simp only [Finset.mem_filter, Finset.mem_univ, true_and, Finset.mem_insert, Fin.ext_iff]; omega
  unfold Cl2
  rw [h, BI.bigSep_insert (by simp)]
  exact BI.Entails.refl _

/-! ## What a device keeps of its buffers -/

/-- The next block's buffer of direction `d` at contents `w`, the stage buffer, the staging buffer. -/
def Nx (d : Bool) (c : Dev nD) (w : Vec F S1024x1024 .bf16) : sProp 𝕄 :=
  match d with
  | false => ((c : Thread nD τ).loc cc0_scratch7) ↦{fullShare} w
  | true => ((c : Thread nD τ).loc cc0_scratch8) ↦{fullShare} w
def St (d : Bool) (c : Dev nD) (w : Vec F S1024x1024 .f32) : sProp 𝕄 :=
  match d with
  | false => ((c : Thread nD τ).loc cc0_scratch9) ↦{fullShare} w
  | true => ((c : Thread nD τ).loc cc0_scratch10) ↦{fullShare} w
def Gb (c : Dev nD) (w : Vec F S1024x1024 .f32) : sProp 𝕄 := ((c : Thread nD τ).loc cc0_scratch2) ↦{fullShare} w

section Rules
variable {α : Type}

theorem read_nM (d : Bool) (R : Rect S1024x1024) (w : Vec F S1024x1024 .bf16) :
    ((nM true).access R).read (Elt F) w = ((nM false).access R).read (Elt F) w := rfl
theorem read_tM (R : Rect S1024x1024) (w : Vec F S1024x1024 .f32) :
    ((tM true).access R).read (Elt F) w = ((tM false).access R).read (Elt F) w := rfl
theorem write_tM (R : Rect S1024x1024) (w : Vec F S1024x1024 .f32) (w' : R.shape.Idx → Elt F .f32) :
    ((tM true).access R).write (Elt F) w w' Finset.univ = ((tM false).access R).write (Elt F) w w' Finset.univ := rfl

theorem wp_load_next (d : Bool) (c : Dev nD) (w : Vec F S1024x1024 .bf16) (R : Rect S1024x1024) {Q : α → sProp 𝕄} {hl : (nM d).view.LoadsAt R.toLoadRect}
    {k : (R.shape.Idx → Elt F .bf16) → Prog (TpuEff nD τ sig (Elt F) Λ₀ .tc) α} :
    Nx d c w ⊢ iprop((Nx d c w -∗ WP c (k (((nM false).access R).read (Elt F) w)) Q) -∗ WP c (.op (.load (nM d) R.toLoadRect hl) k) Q) := by
  cases d
  · unfold Nx; dsimp only
    iintro H Hk
    iapply (wp_load_rect 𝒱₀ (c : Thread nD τ) none Set.univ (m := nM false) (r := R) (S := Finset.univ) (Finset.subset_univ _)) $$ H; iintro H
    iapply Hk; iexact H
  · unfold Nx; dsimp only
    iintro H Hk
    iapply (wp_load_rect 𝒱₀ (c : Thread nD τ) none Set.univ (m := nM true) (r := R) (S := Finset.univ) (Finset.subset_univ _)) $$ H; iintro H
    iapply Hk; iexact H

theorem wp_load_stage (d : Bool) (c : Dev nD) (w : Vec F S1024x1024 .f32) (R : Rect S1024x1024) {Q : α → sProp 𝕄} {hl : (tM d).view.LoadsAt R.toLoadRect}
    {k : (R.shape.Idx → Elt F .f32) → Prog (TpuEff nD τ sig (Elt F) Λ₀ .tc) α} :
    St d c w ⊢ iprop((St d c w -∗ WP c (k (((tM false).access R).read (Elt F) w)) Q) -∗ WP c (.op (.load (tM d) R.toLoadRect hl) k) Q) := by
  cases d
  · unfold St; dsimp only
    iintro H Hk
    iapply (wp_load_rect 𝒱₀ (c : Thread nD τ) none Set.univ (m := tM false) (r := R) (S := Finset.univ) (Finset.subset_univ _)) $$ H; iintro H
    iapply Hk; iexact H
  · unfold St; dsimp only
    iintro H Hk
    iapply (wp_load_rect 𝒱₀ (c : Thread nD τ) none Set.univ (m := tM true) (r := R) (S := Finset.univ) (Finset.subset_univ _)) $$ H; iintro H
    iapply Hk; iexact H

theorem wp_store_next (d : Bool) (c : Dev nD) (w w' : Vec F S1024x1024 .bf16) {Q : α → sProp 𝕄} {hx : ((nM d).access fR).Stores Finset.univ}
    {hm : (Finset.univ : Finset fR.shape.Idx) = Finset.univ ∨ ∀ a, fR.stride a = 1} {k : PUnit → Prog (TpuEff nD τ sig (Elt F) Λ₀ .tc) α} :
    Nx d c w ⊢ iprop((Nx d c w' -∗ WP c (k ⟨⟩) Q) -∗ WP c (.op (.store (nM d) fR w' Finset.univ hx hm) k) Q) := by
  cases d
  · unfold Nx
    iintro H Hk
    iapply (wp_store 𝒱₀ (c : Thread nD τ) none Set.univ (m := nM false) (r := fR) (Mk := Finset.univ) (S := Finset.univ) (Finset.subset_univ _)) $$ H; iintro H
    iapply Hk
    rw [show ((nM false).access fR).write (Elt F) w w' Finset.univ = w' from Memref.write_access_unit_zero_univ (Elt F) cc0_scratch7 hz _ w w']
    iexact H
  · unfold Nx
    iintro H Hk
    iapply (wp_store 𝒱₀ (c : Thread nD τ) none Set.univ (m := nM true) (r := fR) (Mk := Finset.univ) (S := Finset.univ) (Finset.subset_univ _)) $$ H; iintro H
    iapply Hk
    rw [show ((nM true).access fR).write (Elt F) w w' Finset.univ = w' from Memref.write_access_unit_zero_univ (Elt F) cc0_scratch8 hz _ w w']
    iexact H

theorem wp_store_stage (d : Bool) (c : Dev nD) (w : Vec F S1024x1024 .f32) (R : Rect S1024x1024) (w' : R.shape.Idx → Elt F .f32) {Q : α → sProp 𝕄} {hx : ((tM d).access R).Stores Finset.univ}
    {hm : (Finset.univ : Finset R.shape.Idx) = Finset.univ ∨ ∀ a, R.stride a = 1} {k : PUnit → Prog (TpuEff nD τ sig (Elt F) Λ₀ .tc) α} :
    St d c w ⊢ iprop((St d c (((tM false).access R).write (Elt F) w w' Finset.univ) -∗ WP c (k ⟨⟩) Q) -∗ WP c (.op (.store (tM d) R w' Finset.univ hx hm) k) Q) := by
  cases d
  · unfold St
    iintro H Hk
    iapply (wp_store 𝒱₀ (c : Thread nD τ) none Set.univ (m := tM false) (r := R) (Mk := Finset.univ) (S := Finset.univ) (Finset.subset_univ _)) $$ H; iintro H
    iapply Hk; iexact H
  · unfold St
    iintro H Hk
    iapply (wp_store 𝒱₀ (c : Thread nD τ) none Set.univ (m := tM true) (r := R) (Mk := Finset.univ) (S := Finset.univ) (Finset.subset_univ _)) $$ H; iintro H
    iapply Hk; iexact H

/-- Filling half a send buffer at the first step of a pass. -/
theorem wp_fill_first (d : Bool) (c : Dev nD) (h : Fin 2) (w : Vec F S1024x1024 .bf16) {Q : α → sProp 𝕄}
    {hl : (nM d).view.LoadsAt (hR h).toLoadRect} {hl' : (sM d).view.LoadsAt (sR h).toLoadRect} {hx : ((sM d).access (sR h)).Stores Finset.univ}
    {hm : (Finset.univ : Finset (sR h).shape.Idx) = Finset.univ ∨ ∀ a, (sR h).stride a = 1} {k : PUnit → Prog (TpuEff nD τ sig (Elt F) Λ₀ .tc) α} :
    iprop(Nx d c w ∗ Any c (sM d) (sR h))
      ⊢ iprop(((Nx d c w ∗ Own c (sM d) (sR h) (k0_pay9 (rows h w))) -∗ WP c (k ⟨⟩) Q)
          -∗ WP c (.op (.load (nM d) (hR h).toLoadRect hl) fun v => .op (.load (sM d) (sR h).toLoadRect hl') fun _ =>
              .op (.store (sM d) (sR h) (k0_pay9 v) Finset.univ hx hm) k) Q) := by
  iintro ⟨Hn, Hs⟩ Hk
  iapply (wp_load_next d c w (hR h)) $$ Hn; iintro Hn
  iapply (wp_load_any c) $$ Hs; iintro Hs
  iapply (wp_store_any c) $$ Hs; iintro Hs
  iapply Hk
  isplitl [Hn]; · iexact Hn
  iexact Hs

/-- Filling half a send buffer at a later step: the block's half plus what was received. -/
theorem wp_fill_add (d : Bool) (c : Dev nD) (h : Fin 2) (j : Fin 4) (w : Vec F S1024x1024 .bf16) (v : Vec F S1x512x1024 .bf16) {Q : α → sProp 𝕄}
    {hl : (nM d).view.LoadsAt (hR h).toLoadRect} {hr : (rM d).view.LoadsAt (rR j).toLoadRect} {hl' : (sM d).view.LoadsAt (sR h).toLoadRect}
    {hx : ((sM d).access (sR h)).Stores Finset.univ} {hm : (Finset.univ : Finset (sR h).shape.Idx) = Finset.univ ∨ ∀ a, (sR h).stride a = 1}
    {k : PUnit → Prog (TpuEff nD τ sig (Elt F) Λ₀ .tc) α} :
    iprop(Nx d c w ∗ Own c (rM d) (rR j) v ∗ Any c (sM d) (sR h))
      ⊢ iprop(((Nx d c w ∗ Own c (rM d) (rR j) v ∗ Own c (sM d) (sR h) (k0_pay17 (rows h w) v)) -∗ WP c (k ⟨⟩) Q)
          -∗ WP c (.op (.load (nM d) (hR h).toLoadRect hl) fun n => .op (.load (rM d) (rR j).toLoadRect hr) fun r =>
              .op (.load (sM d) (sR h).toLoadRect hl') fun _ => .op (.store (sM d) (sR h) (k0_pay17 n r) Finset.univ hx hm) k) Q) := by
  iintro ⟨Hn, Hr, Hs⟩ Hk
  iapply (wp_load_next d c w (hR h)) $$ Hn; iintro Hn
  iapply (wp_load_own c) $$ Hr; iintro Hr
  iapply (wp_load_any c) $$ Hs; iintro Hs
  iapply (wp_store_any c) $$ Hs; iintro Hs
  iapply Hk
  isplitl [Hn]; · iexact Hn
  isplitl [Hr]; · iexact Hr
  iexact Hs

/-- Finishing half the rows of a stage buffer: what was received is added and the sum scaled. -/
theorem wp_epi (d : Bool) (c : Dev nD) (h : Fin 2) (j : Fin 4) (sc : F .f32) (t : Vec F S1024x1024 .f32) (v : Vec F S1x512x1024 .bf16) {Q : α → sProp 𝕄}
    {hl : (tM d).view.LoadsAt (hR h).toLoadRect} {hr : (rM d).view.LoadsAt (rR j).toLoadRect} {hl' : (tM d).view.LoadsAt (hR h).toLoadRect}
    {hx : ((tM d).access (hR h)).Stores Finset.univ} {hm : (Finset.univ : Finset (hR h).shape.Idx) = Finset.univ ∨ ∀ a, (hR h).stride a = 1}
    {k : PUnit → Prog (TpuEff nD τ sig (Elt F) Λ₀ .tc) α} :
    iprop(St d c t ∗ Own c (rM d) (rR j) v)
      ⊢ iprop(((St d c (setRowsF h t (k0_pay34 sc (rowsF h t) v)) ∗ Own c (rM d) (rR j) v) -∗ WP c (k ⟨⟩) Q)
          -∗ WP c (.op (.load (tM d) (hR h).toLoadRect hl) fun n => .op (.load (rM d) (rR j).toLoadRect hr) fun r =>
              .op (.load (tM d) (hR h).toLoadRect hl') fun _ => .op (.store (tM d) (hR h) (k0_pay34 sc n r) Finset.univ hx hm) k) Q) := by
  iintro ⟨Ht, Hr⟩ Hk
  iapply (wp_load_stage d c t (hR h)) $$ Ht; iintro Ht
  iapply (wp_load_own c) $$ Hr; iintro Hr
  iapply (wp_load_stage d c t (hR h)) $$ Ht; iintro Ht
  iapply (wp_store_stage d c t (hR h)) $$ Ht; iintro Ht
  iapply Hk
  isplitl [Ht]; · iexact Ht
  iexact Hr

end Rules

end Cert.KernelProof

end
-- ==== Proof.Ring.lean ====
/-
Half a step round the ring, of each of its kinds: at the first step of a pass,
at a later step, between two passes, and at the end.
-/
module

public import proofs.«01_k».proof.Proof.Steps

@[expose] public section

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : GSem nD τ sig → ℕ)

/-! ## The values -/

theorem sent_first (d : Bool) (j : Fin 24) (hs : stOf j = 0) (c : Dev nD) :
    sent m d j c = k0_pay9 (rows (hOf j) (prt m c (ch d 0 c) (col d (pOf j)))) := by
  unfold sent; rw [hs, sentAt]
theorem sent_add (d : Bool) (i j : Fin 24) (hj : j.val = i.val + 2) (hs : stOf j = stOf i + 1) (c : Dev nD) :
    sent m d j c = k0_pay17 (rows (hOf j) (prt m c (ch d (stOf j) c) (col d (pOf j)))) (sent m d i (srcOf d c)) := by
  have hp : pOf j = pOf i := Fin.ext (by have := i.isLt; unfold stOf at hs; simp only [pOf]; omega)
  have hh : hOf j = hOf i := Fin.ext (by simp only [hOf]; omega)
  unfold sent; rw [hs, sentAt, hp, hh]

/-- The stage block of pass `p` in direction `d` with its first `n` halves finished. -/
def tAt (sc : F .f32) (d : Bool) (p : Fin 4) (c : Dev nD) : ℕ → Vec F S1024x1024 .f32
  | 0 => prtF m c (xj 0 c) (col d p)
  | n + 1 => setRowsF ⟨n % 2, Nat.mod_lt _ (by decide)⟩ (tAt sc d p c n)
      (k0_pay34 sc (rowsF ⟨n % 2, Nat.mod_lt _ (by decide)⟩ (tAt sc d p c n)) (sentAt m d p ⟨n % 2, Nat.mod_lt _ (by decide)⟩ 2 (srcOf d c)))

theorem tAt_step (sc : F .f32) (d : Bool) (i : Fin 24) (hs : stOf i = 2) (c : Dev nD) :
    setRowsF (hOf i) (tAt m sc d (pOf i) c (hOf i).val) (k0_pay34 sc (rowsF (hOf i) (tAt m sc d (pOf i) c (hOf i).val)) (sent m d i (srcOf d c)))
      = tAt m sc d (pOf i) c ((hOf i).val + 1) := by
  have hh : (⟨(hOf i).val % 2, Nat.mod_lt _ (by decide)⟩ : Fin 2) = hOf i := Fin.ext (Nat.mod_eq_of_lt (hOf i).isLt)
  unfold sent
  rw [tAt, hh, hs]

theorem hOf_add (i j : Fin 24) (hj : j.val = i.val + 2) : hOf j = hOf i := Fin.ext (by simp only [hOf]; omega)
theorem slot2_add (i j : Fin 24) (hj : j.val = i.val + 2) : slot j = slot2 i := Fin.ext (by simp only [slot, slot2]; omega)
theorem slot2_back (i j : Fin 24) (hj : j.val = i.val + 2) : slot2 j = slot i := Fin.ext (by simp only [slot, slot2]; omega)

/-- What a device has of transfer `i` once it is waited for. -/
def Got (d : Bool) (i : Fin 24) (c : Dev nD) : sProp 𝕄 :=
  iprop((semVal (xC d false i c) 0 ∗ semVal (xC d true i c) 0) ∗ Any c (sM d) (sR (hOf i))
    ∗ Own c (rM d) (rR (slot i)) (sent m d i (srcOf d c))
    ∗ if 2 ≤ i.val ∧ i.val < 22 then Any (srcOf d c) (rM !d) (rR (slot2 i)) else iprop(emp))

section Rules
variable {α : Type}

abbrev sV (d : Bool) (h : Fin 2) : Memref sig .tc .vmem S512x1024 .bf16 := ((sM d).slice (sR h) (fun _ => rfl)).squeeze S512x1024 squeezes_S1x512x1024_S512x1024
abbrev rV (d : Bool) (k : Fin 4) : Memref sig .tc .vmem S512x1024 .bf16 := ((rM d).slice (rR k) (fun _ => rfl)).squeeze S512x1024 squeezes_S1x512x1024_S512x1024

/-- The two waits for transfer `i` in direction `d`. -/
theorem wp_wait2 (c : Dev nD) (d : Bool) (i : Fin 24) (n : ℕ) (hn : i.val < n) {Q : α → sProp 𝕄}
    {h1 : (rV d (slot i)).view.WordExact} {h2 : (sV d (hOf i)).view.WordExact} {h3 : (sV d (hOf i)).view.WordExact} {h4 : (rV d (slot i)).view.WordExact}
    {k : PUnit → Prog (TpuEff nD τ sig (Elt F) Λ₀ .tc) α} :
    iprop(Ctx m K ∗ Ow n c ∗ PeX d c i)
      ⊢ iprop(((Ow n c ∗ Got m d i c) -∗ WP c (k ⟨⟩) Q)
          -∗ WP c (.op (.waitDma2 (xsem d false i) (rV d (slot i)) (sV d (hOf i)) h1 h2) fun _ =>
              .op (.waitDma2 (xsem d true i) (sV d (hOf i)) (rV d (slot i)) h3 h4) k) Q) := by
  unfold PeX
  iintro ⟨#HC, HO, ⟨⟨Ha, Hb, Hc⟩, Hd⟩⟩ Hk
  iapply (wp_wait_x m K c d false i n (by rw [lvS_send]; omega) (N_s d (hOf i))) $$ [HO Ha Hd]
  · isplitr; · iexact HC
    isplitl [Hd]; · iexact Hd
    isplitl [Ha]; · iexact Ha
    iexact HO
  iintro ⟨HO, Hz, Hp⟩
  iapply (wp_wait_x m K c d true i n (by rw [lvS_recv]; omega) (N_r d (slot i))) $$ [HO Hb Hc]
  · isplitr; · iexact HC
    isplitl [Hc]; · iexact Hc
    isplitl [Hb]; · iexact Hb
    iexact HO
  iintro ⟨HO, Hz', Hp'⟩
  iapply Hk
  isplitl [HO]; · iexact HO
  unfold Got
  isplitl [Hz Hz']; · isplitl [Hz] <;> iassumption
  ihave Hp := (Entails.of_eq (payload_send m c d i false)) $$ Hp
  unfold sendPay
  isplitl [Hp]; · iexact Hp
  ihave Hp' := (Entails.of_eq (payload_recv m c d i false)) $$ Hp'
  unfold recvPay
  iexact Hp'

/-- What a device gives to send transfer `j` in direction `d`. -/
def Give (d : Bool) (j : Fin 24) (c : Dev nD) : sProp 𝕄 :=
  iprop(Own c (sM d) (sR (hOf j)) (sent m d j c) ∗ Any (dstOf d c) (rM d) (rR (slot j))
    ∗ (if 2 ≤ j.val ∧ j.val < 22 then Any c (rM !d) (rR (slot2 j)) else iprop(emp))
    ∗ (dutyTok ER (xC d false j c) 0 false ∗ dutyTok ER (xC d true j (dstOf d c)) 0 false))
/-- What it has back at once. -/
def Sent (d : Bool) (j : Fin 24) (c : Dev nD) : sProp 𝕄 := cred (tallyAt (xC d false j c) () N)

/-- The two sends of transfer `j`. -/
theorem wp_send2 (c : Dev nD) (j : Fin 24) {n n' : Dev nD} (hn : n = nxt c) (hn' : n' = prv c) {Q : α → sProp 𝕄}
    {hsc : (rV false (slot j)).view.ref.isScScratch = false} {hsrc : (sV false (hOf j)).view.WordExact} {hdst : (rV false (slot j)).view.WordExact}
    {hsem : DmaTarget.Typed .vmem (.dma (xsem false true j)) (.remote (Dev.tc n : Thread nD τ) (rV false (slot j)) (.dma (xsem false false j)) hsc)}
    {hsc' : (rV true (slot j)).view.ref.isScScratch = false} {hsrc' : (sV true (hOf j)).view.WordExact} {hdst' : (rV true (slot j)).view.WordExact}
    {hsem' : DmaTarget.Typed .vmem (.dma (xsem true true j)) (.remote (Dev.tc n' : Thread nD τ) (rV true (slot j)) (.dma (xsem true false j)) hsc')}
    {k : PUnit → Prog (TpuEff nD τ sig (Elt F) Λ₀ .tc) α} :
    iprop(Ctx m K ∗ Ow j.val c ∗ Give m false j c ∗ Give m true j c)
      ⊢ iprop(((Ow (j.val + 1) c ∗ Sent false j c ∗ Sent true j c) -∗ WP c (k ⟨⟩) Q)
          -∗ WP c (.op (.enqueueDma (sV false (hOf j)) (.remote (Dev.tc n : Thread nD τ) (rV false (slot j)) (.dma (xsem false false j)) hsc)
                (.dma (xsem false true j)) hsrc hdst hsem) fun _ =>
              .op (.enqueueDma (sV true (hOf j)) (.remote (Dev.tc n' : Thread nD τ) (rV true (slot j)) (.dma (xsem true false j)) hsc')
                (.dma (xsem true true j)) hsrc' hdst' hsem') k) Q) := by
  unfold Give Ow Sent
  iintro ⟨#HC, HO, ⟨Ha, Hb, Hc, Hd, He⟩, Ha', Hb', Hc', Hd', He'⟩ Hk
  iapply (wp_send_x m K c false j hn _ (OO_step j c)) $$ [HO Ha Hb Hc Hd He]
  · isplitr; · iexact HC
    isplitl [Ha]; · iexact Ha
    isplitl [Hb]; · iexact Hb
    isplitl [Hc]; · iexact Hc
    isplitl [Hd]; · iexact Hd
    isplitl [He]; · iexact He
    iexact HO
  iintro ⟨Hs, HO⟩
  iapply (wp_send_x m K c true j hn' _ rfl) $$ [HO Ha' Hb' Hc' Hd' He']
  · isplitr; · iexact HC
    isplitl [Ha']; · iexact Ha'
    isplitl [Hb']; · iexact Hb'
    isplitl [Hc']; · iexact Hc'
    isplitl [Hd']; · iexact Hd'
    isplitl [He']; · iexact He'
    iexact HO
  iintro ⟨Hs', HO⟩
  iapply Hk
  isplitl [HO]; · iexact HO
  isplitl [Hs] <;> iassumption

end Rules

/-- The receive slot a device sends into, from the start or with what it received. -/
theorem dst_of (d : Bool) (i j : Fin 24) (hj : j.val = i.val + 2) (c : Dev nD) :
    iprop((if j.val < 4 then Any (F := F) (dstOf d c) (rM d) (rR (slot j)) else iprop(emp))
        ∗ if 2 ≤ i.val ∧ i.val < 22 then Any (srcOf (!d) c) (rM !!d) (rR (slot2 i)) else iprop(emp))
      ⊢ Any (dstOf d c) (rM d) (rR (slot j)) := by
  by_cases h : j.val < 4
  · rw [if_pos h, if_neg (by omega)]; iintro ⟨H, -⟩; iexact H
  · have := j.isLt
    rw [if_neg h, if_pos (by omega), slot2_add i j hj, src_not, Bool.not_not]; iintro ⟨-, H⟩; iexact H

/-- A device's own slot, read: handed on with the next transfer, or kept to the end. -/
theorem own_of (d : Bool) (i j : Fin 24) (hj : j.val = i.val + 2) (c : Dev nD) (v) :
    Own (F := F) c (rM d) (rR (slot i)) v
      ⊢ iprop((if 2 ≤ j.val ∧ j.val < 22 then Any c (rM d) (rR (slot2 j)) else iprop(emp)) ∗ if 20 ≤ i.val then Any c (rM d) (rR (slot i)) else iprop(emp)) := by
  refine (Own_any c _ _ _).trans ?_
  by_cases h : 20 ≤ i.val
  · rw [if_neg (by omega), if_pos h]; iintro H; isplitr
    · iempintro
    iexact H
  · have := j.isLt
    rw [if_pos (by omega), if_neg h, slot2_back i j hj]; iintro H; isplitl
    · iexact H
    iempintro

/-- What a device has of direction `d` when transfer `i` is read and the half for transfer `j` refilled. -/
def Turn (d : Bool) (i j : Fin 24) (c : Dev nD) : sProp 𝕄 :=
  iprop((semVal (xC d false i c) 0 ∗ semVal (xC d true i c) 0) ∗ Own c (rM d) (rR (slot i)) (sent m d i (srcOf d c))
    ∗ (if 2 ≤ i.val ∧ i.val < 22 then Any (srcOf d c) (rM !d) (rR (slot2 i)) else iprop(emp))
    ∗ Own c (sM d) (sR (hOf j)) (sent m d j c) ∗ UnX d c j)
/-- The positions and the credit of a transfer. -/
def Rest (d : Bool) (j : Fin 24) (c : Dev nD) : sProp 𝕄 :=
  iprop(atPos ER (xC d false j c) 0 ∅ 0 ∗ atPos ER (xC d true j c) 0 ∅ 0 ∗ cred (tallyAt (xC d true j c) () N))

theorem turn (i j : Fin 24) (hj : j.val = i.val + 2) (c : Dev nD) :
    iprop(Turn m false i j c ∗ Turn m true i j c)
      ⊢ iprop((Give m false j c ∗ Give m true j c) ∗ (ClX false c i ∗ ClX true c i) ∗ Rest (F := F) false j c ∗ Rest true j c) := by
  have hj' := j.isLt
  unfold Turn UnX Give ClX Rest
  rw [if_neg (show ¬ 22 ≤ i.val by omega), if_neg (show ¬ 22 ≤ i.val by omega)]
  iintro ⟨⟨Hz, Hr, Ha, Hs, Ht, Hp, Hd, -⟩, Hz', Hr', Ha', Hs', Ht', Hp', Hd', -⟩
  ihave Hr := (own_of false i j hj c _) $$ Hr
  icases Hr with ⟨Hr, Hc⟩
  ihave Hr' := (own_of true i j hj c _) $$ Hr'
  icases Hr' with ⟨Hr', Hc'⟩
  isplitl [Hs Hs' Hd Ha' Hd' Ha Hr Hr' Ht Ht']
  · isplitl [Hs Hd Ha' Hr' Ht]
    · isplitl [Hs]; · iexact Hs
      isplitl [Hd Ha']
      · iapply (dst_of false i j hj c); isplitl [Hd]
        · iexact Hd
        iexact Ha'
      isplitl [Hr']; · iexact Hr'
      iexact Ht
    · isplitl [Hs']; · iexact Hs'
      isplitl [Hd' Ha]
      · iapply (dst_of true i j hj c); isplitl [Hd']
        · iexact Hd'
        iexact Ha
      isplitl [Hr]; · iexact Hr
      iexact Ht'
  isplitl [Hz Hz' Hc Hc']
  · isplitl [Hz Hc]
    · isplitl [Hz]; · iexact Hz
      isplitl [Hc]; · iexact Hc
      iempintro
    · isplitl [Hz']; · iexact Hz'
      isplitl [Hc']; · iexact Hc'
      iempintro
  isplitl [Hp] <;> iassumption

theorem pe_open (i : Fin 24) (c : Dev nD) : Pe2 (F := F) i c ⊢ iprop(PeX false c i ∗ PeX true c i) := BI.Entails.refl _

theorem pe_of (j : Fin 24) (c : Dev nD) : iprop((Rest (F := F) false j c ∗ Rest true j c) ∗ Sent false j c ∗ Sent true j c) ⊢ Pe2 j c := by
  unfold Rest Sent Pe2 PeX
  iintro ⟨⟨H1, H2⟩, H3, H4⟩
  isplitl [H1 H3]
  · isplitl [H1] <;> iassumption
  isplitl [H2] <;> iassumption

/-- At the first step of the first pass. -/
theorem first_of (d : Bool) (j : Fin 24) (hj : j.val < 2) (c : Dev nD) :
    UnX (F := F) d c j ⊢ iprop(Any c (sM d) (sR (hOf j)) ∗ Rest d j c ∗ (Own c (sM d) (sR (hOf j)) (sent m d j c) -∗ Give m d j c)) := by
  unfold UnX Rest Give
  rw [if_pos (show j.val < 4 by omega), if_pos hj, if_neg (by omega)]
  iintro ⟨Ht, Hr, Hd, Hs⟩
  isplitl [Hs]; · iexact Hs
  isplitl [Hr]; · iexact Hr
  iintro Ho
  isplitl [Ho]; · iexact Ho
  isplitl [Hd]; · iexact Hd
  isplitr; · iempintro
  iexact Ht

section Half
variable {α : Type}

/-- At the first step of the first pass. -/
theorem half_first (c : Dev nD) (j : Fin 24) (hj : j.val < 2) {n n' : Dev nD} (hn : n = nxt c) (hn' : n' = prv c) {Q : α → sProp 𝕄}
    {l1 : (nM false).view.LoadsAt (hR (hOf j)).toLoadRect} {l2 : (sM false).view.LoadsAt (sR (hOf j)).toLoadRect}
    {x1 : ((sM false).access (sR (hOf j))).Stores Finset.univ} {m1 : (Finset.univ : Finset (sR (hOf j)).shape.Idx) = Finset.univ ∨ ∀ a, (sR (hOf j)).stride a = 1}
    {l3 : (nM true).view.LoadsAt (hR (hOf j)).toLoadRect} {l4 : (sM true).view.LoadsAt (sR (hOf j)).toLoadRect}
    {x2 : ((sM true).access (sR (hOf j))).Stores Finset.univ} {m2 : (Finset.univ : Finset (sR (hOf j)).shape.Idx) = Finset.univ ∨ ∀ a, (sR (hOf j)).stride a = 1}
    {hsc : (rV false (slot j)).view.ref.isScScratch = false} {hsrc : (sV false (hOf j)).view.WordExact} {hdst : (rV false (slot j)).view.WordExact}
    {hsem : DmaTarget.Typed .vmem (.dma (xsem false true j)) (.remote (Dev.tc n : Thread nD τ) (rV false (slot j)) (.dma (xsem false false j)) hsc)}
    {hsc' : (rV true (slot j)).view.ref.isScScratch = false} {hsrc' : (sV true (hOf j)).view.WordExact} {hdst' : (rV true (slot j)).view.WordExact}
    {hsem' : DmaTarget.Typed .vmem (.dma (xsem true true j)) (.remote (Dev.tc n' : Thread nD τ) (rV true (slot j)) (.dma (xsem true false j)) hsc')}
    {k : PUnit → Prog (TpuEff nD τ sig (Elt F) Λ₀ .tc) α} :
    iprop(Ctx m K ∗ Ow j.val c ∗ Un2 j.val c ∗ Nx false c (prt m c (ch false 0 c) (col false (pOf j))) ∗ Nx true c (prt m c (ch true 0 c) (col true (pOf j))))
      ⊢ iprop(((Ow (j.val + 1) c ∗ Un2 (j.val + 1) c ∗ Pe2 j c ∗ Nx false c (prt m c (ch false 0 c) (col false (pOf j)))
            ∗ Nx true c (prt m c (ch true 0 c) (col true (pOf j)))) -∗ WP c (k ⟨⟩) Q)
          -∗ WP c (.op (.load (nM false) (hR (hOf j)).toLoadRect l1) fun v => .op (.load (sM false) (sR (hOf j)).toLoadRect l2) fun _ =>
              .op (.store (sM false) (sR (hOf j)) (k0_pay9 v) Finset.univ x1 m1) fun _ =>
              .op (.load (nM true) (hR (hOf j)).toLoadRect l3) fun v' => .op (.load (sM true) (sR (hOf j)).toLoadRect l4) fun _ =>
              .op (.store (sM true) (sR (hOf j)) (k0_pay9 v') Finset.univ x2 m2) fun _ =>
              .op (.enqueueDma (sV false (hOf j)) (.remote (Dev.tc n : Thread nD τ) (rV false (slot j)) (.dma (xsem false false j)) hsc)
                (.dma (xsem false true j)) hsrc hdst hsem) fun _ =>
              .op (.enqueueDma (sV true (hOf j)) (.remote (Dev.tc n' : Thread nD τ) (rV true (slot j)) (.dma (xsem true false j)) hsc')
                (.dma (xsem true true j)) hsrc' hdst' hsem') k) Q) := by
  have hs : stOf j = 0 := by unfold stOf; omega
  iintro ⟨#HC, HO, HU, HA, HB⟩ Hk
  ihave HU := (un_step j c) $$ HU
  icases HU with ⟨⟨Hu, Hu'⟩, HU⟩
  ihave Hu := (first_of m false j hj c) $$ Hu
  icases Hu with ⟨Hs, Hr, Hg⟩
  ihave Hu' := (first_of m true j hj c) $$ Hu'
  icases Hu' with ⟨Hs', Hr', Hg'⟩
  iapply (wp_fill_first false c (hOf j) _) $$ [HA Hs]
  · isplitl [HA] <;> iassumption
  iintro ⟨HA, Hs⟩
  rw [← sent_first m false j hs c]
  iapply (wp_fill_first true c (hOf j) _) $$ [HB Hs']
  · isplitl [HB] <;> iassumption
  iintro ⟨HB, Hs'⟩
  rw [← sent_first m true j hs c]
  iapply (wp_send2 m K c j hn hn') $$ [HO Hs Hs' Hg Hg']
  · isplitr; · iexact HC
    isplitl [HO]; · iexact HO
    isplitl [Hg Hs]; · iapply Hg; iexact Hs
    iapply Hg'; iexact Hs'
  iintro ⟨HO, Hz⟩
  iapply Hk
  isplitl [HO]; · iexact HO
  isplitl [HU]; · iexact HU
  isplitl [Hr Hr' Hz]
  · iapply (pe_of j c); isplitr [Hz]
    · isplitl [Hr] <;> iassumption
    iexact Hz
  isplitl [HA] <;> iassumption

/-- At a later step of a pass. -/
theorem half_add (c : Dev nD) (i j : Fin 24) (hj : j.val = i.val + 2) (hs : stOf j = stOf i + 1) {n n' : Dev nD} (hn : n = nxt c) (hn' : n' = prv c) {Q : α → sProp 𝕄}
    {h1 : (rV false (slot i)).view.WordExact} {h2 : (sV false (hOf i)).view.WordExact} {h3 : (sV false (hOf i)).view.WordExact} {h4 : (rV false (slot i)).view.WordExact}
    {h5 : (rV true (slot i)).view.WordExact} {h6 : (sV true (hOf i)).view.WordExact} {h7 : (sV true (hOf i)).view.WordExact} {h8 : (rV true (slot i)).view.WordExact}
    {l1 : (nM false).view.LoadsAt (hR (hOf j)).toLoadRect} {r1 : (rM false).view.LoadsAt (rR (slot i)).toLoadRect} {l2 : (sM false).view.LoadsAt (sR (hOf j)).toLoadRect}
    {x1 : ((sM false).access (sR (hOf j))).Stores Finset.univ} {m1 : (Finset.univ : Finset (sR (hOf j)).shape.Idx) = Finset.univ ∨ ∀ a, (sR (hOf j)).stride a = 1}
    {l3 : (nM true).view.LoadsAt (hR (hOf j)).toLoadRect} {r2 : (rM true).view.LoadsAt (rR (slot i)).toLoadRect} {l4 : (sM true).view.LoadsAt (sR (hOf j)).toLoadRect}
    {x2 : ((sM true).access (sR (hOf j))).Stores Finset.univ} {m2 : (Finset.univ : Finset (sR (hOf j)).shape.Idx) = Finset.univ ∨ ∀ a, (sR (hOf j)).stride a = 1}
    {hsc : (rV false (slot j)).view.ref.isScScratch = false} {hsrc : (sV false (hOf j)).view.WordExact} {hdst : (rV false (slot j)).view.WordExact}
    {hsem : DmaTarget.Typed .vmem (.dma (xsem false true j)) (.remote (Dev.tc n : Thread nD τ) (rV false (slot j)) (.dma (xsem false false j)) hsc)}
    {hsc' : (rV true (slot j)).view.ref.isScScratch = false} {hsrc' : (sV true (hOf j)).view.WordExact} {hdst' : (rV true (slot j)).view.WordExact}
    {hsem' : DmaTarget.Typed .vmem (.dma (xsem true true j)) (.remote (Dev.tc n' : Thread nD τ) (rV true (slot j)) (.dma (xsem true false j)) hsc')}
    {k : PUnit → Prog (TpuEff nD τ sig (Elt F) Λ₀ .tc) α} :
    iprop(Ctx m K ∗ Ow j.val c ∗ Un2 j.val c ∗ Pe2 i c ∗ Cl2 i.val c ∗ Nx false c (prt m c (ch false (stOf j) c) (col false (pOf j)))
        ∗ Nx true c (prt m c (ch true (stOf j) c) (col true (pOf j))))
      ⊢ iprop(((Ow (j.val + 1) c ∗ Un2 (j.val + 1) c ∗ Pe2 j c ∗ Cl2 (i.val + 1) c ∗ Nx false c (prt m c (ch false (stOf j) c) (col false (pOf j)))
            ∗ Nx true c (prt m c (ch true (stOf j) c) (col true (pOf j)))) -∗ WP c (k ⟨⟩) Q)
          -∗ WP c (.op (.waitDma2 (xsem false false i) (rV false (slot i)) (sV false (hOf i)) h1 h2) fun _ =>
              .op (.waitDma2 (xsem false true i) (sV false (hOf i)) (rV false (slot i)) h3 h4) fun _ =>
              .op (.waitDma2 (xsem true false i) (rV true (slot i)) (sV true (hOf i)) h5 h6) fun _ =>
              .op (.waitDma2 (xsem true true i) (sV true (hOf i)) (rV true (slot i)) h7 h8) fun _ =>
              .op (.load (nM false) (hR (hOf j)).toLoadRect l1) fun v => .op (.load (rM false) (rR (slot i)).toLoadRect r1) fun u =>
              .op (.load (sM false) (sR (hOf j)).toLoadRect l2) fun _ => .op (.store (sM false) (sR (hOf j)) (k0_pay17 v u) Finset.univ x1 m1) fun _ =>
              .op (.load (nM true) (hR (hOf j)).toLoadRect l3) fun v' => .op (.load (rM true) (rR (slot i)).toLoadRect r2) fun u' =>
              .op (.load (sM true) (sR (hOf j)).toLoadRect l4) fun _ => .op (.store (sM true) (sR (hOf j)) (k0_pay17 v' u') Finset.univ x2 m2) fun _ =>
              .op (.enqueueDma (sV false (hOf j)) (.remote (Dev.tc n : Thread nD τ) (rV false (slot j)) (.dma (xsem false false j)) hsc)
                (.dma (xsem false true j)) hsrc hdst hsem) fun _ =>
              .op (.enqueueDma (sV true (hOf j)) (.remote (Dev.tc n' : Thread nD τ) (rV true (slot j)) (.dma (xsem true false j)) hsc')
                (.dma (xsem true true j)) hsrc' hdst' hsem') k) Q) := by
  iintro ⟨#HC, HO, HU, HP, HL, HA, HB⟩ Hk
  ihave HP := (pe_open i c) $$ HP
  icases HP with ⟨HP, HP'⟩
  iapply (wp_wait2 m K c false i j.val (by omega)) $$ [HO HP]
  · isplitr; · iexact HC
    isplitl [HO] <;> iassumption
  iintro ⟨HO, HG⟩
  iapply (wp_wait2 m K c true i j.val (by omega)) $$ [HO HP']
  · isplitr; · iexact HC
    isplitl [HO] <;> iassumption
  iintro ⟨HO, HG'⟩
  unfold Got
  rw [← hOf_add i j hj]
  icases HG with ⟨Hz, Hs, Hr, Ha⟩
  icases HG' with ⟨Hz', Hs', Hr', Ha'⟩
  iapply (wp_fill_add false c (hOf j) (slot i) _ _) $$ [HA Hr Hs]
  · isplitl [HA]; · iexact HA
    isplitl [Hr] <;> iassumption
  iintro ⟨HA, Hr, Hs⟩
  rw [← sent_add m false i j hj hs c]
  iapply (wp_fill_add true c (hOf j) (slot i) _ _) $$ [HB Hr' Hs']
  · isplitl [HB]; · iexact HB
    isplitl [Hr'] <;> iassumption
  iintro ⟨HB, Hr', Hs'⟩
  rw [← sent_add m true i j hj hs c]
  ihave HU := (un_step j c) $$ HU
  icases HU with ⟨⟨Hu, Hu'⟩, HU⟩
  ihave HT := (turn m i j hj c) $$ [Hz Hr Ha Hs Hu Hz' Hr' Ha' Hs' Hu']
  · unfold Turn
    isplitl [Hz Hr Ha Hs Hu]
    · isplitl [Hz]; · iexact Hz
      isplitl [Hr]; · iexact Hr
      isplitl [Ha]; · iexact Ha
      isplitl [Hs] <;> iassumption
    · isplitl [Hz']; · iexact Hz'
      isplitl [Hr']; · iexact Hr'
      isplitl [Ha']; · iexact Ha'
      isplitl [Hs'] <;> iassumption
  icases HT with ⟨⟨Hg, Hg'⟩, Hc, Hq⟩
  iapply (wp_send2 m K c j hn hn') $$ [HO Hg Hg']
  · isplitr; · iexact HC
    isplitl [HO]; · iexact HO
    isplitl [Hg] <;> iassumption
  iintro ⟨HO, Hz⟩
  iapply Hk
  isplitl [HO]; · iexact HO
  isplitl [HU]; · iexact HU
  isplitl [Hq Hz]
  · iapply (pe_of j c); isplitl [Hq] <;> iassumption
  isplitl [Hc HL]
  · iapply (cl_step i c); isplitl [Hc] <;> iassumption
  isplitl [HA] <;> iassumption

/-- Between two passes. -/
theorem half_turn (c : Dev nD) (i j : Fin 24) (hj : j.val = i.val + 2) (hs : stOf i = 2) (hs' : stOf j = 0) (sc : F .f32) {n n' : Dev nD} (hn : n = nxt c) (hn' : n' = prv c) {Q : α → sProp 𝕄}
    {h1 : (rV false (slot i)).view.WordExact} {h2 : (sV false (hOf i)).view.WordExact} {h3 : (sV false (hOf i)).view.WordExact} {h4 : (rV false (slot i)).view.WordExact}
    {h5 : (rV true (slot i)).view.WordExact} {h6 : (sV true (hOf i)).view.WordExact} {h7 : (sV true (hOf i)).view.WordExact} {h8 : (rV true (slot i)).view.WordExact}
    {l1 : (tM false).view.LoadsAt (hR (hOf i)).toLoadRect} {r1 : (rM false).view.LoadsAt (rR (slot i)).toLoadRect} {l2 : (tM false).view.LoadsAt (hR (hOf i)).toLoadRect}
    {x1 : ((tM false).access (hR (hOf i))).Stores Finset.univ} {m1 : (Finset.univ : Finset (hR (hOf i)).shape.Idx) = Finset.univ ∨ ∀ a, (hR (hOf i)).stride a = 1}
    {l3 : (tM true).view.LoadsAt (hR (hOf i)).toLoadRect} {r2 : (rM true).view.LoadsAt (rR (slot i)).toLoadRect} {l4 : (tM true).view.LoadsAt (hR (hOf i)).toLoadRect}
    {x2 : ((tM true).access (hR (hOf i))).Stores Finset.univ} {m2 : (Finset.univ : Finset (hR (hOf i)).shape.Idx) = Finset.univ ∨ ∀ a, (hR (hOf i)).stride a = 1}
    {l5 : (nM false).view.LoadsAt (hR (hOf j)).toLoadRect} {l6 : (sM false).view.LoadsAt (sR (hOf j)).toLoadRect}
    {x3 : ((sM false).access (sR (hOf j))).Stores Finset.univ} {m3 : (Finset.univ : Finset (sR (hOf j)).shape.Idx) = Finset.univ ∨ ∀ a, (sR (hOf j)).stride a = 1}
    {l7 : (nM true).view.LoadsAt (hR (hOf j)).toLoadRect} {l8 : (sM true).view.LoadsAt (sR (hOf j)).toLoadRect}
    {x4 : ((sM true).access (sR (hOf j))).Stores Finset.univ} {m4 : (Finset.univ : Finset (sR (hOf j)).shape.Idx) = Finset.univ ∨ ∀ a, (sR (hOf j)).stride a = 1}
    {hsc : (rV false (slot j)).view.ref.isScScratch = false} {hsrc : (sV false (hOf j)).view.WordExact} {hdst : (rV false (slot j)).view.WordExact}
    {hsem : DmaTarget.Typed .vmem (.dma (xsem false true j)) (.remote (Dev.tc n : Thread nD τ) (rV false (slot j)) (.dma (xsem false false j)) hsc)}
    {hsc' : (rV true (slot j)).view.ref.isScScratch = false} {hsrc' : (sV true (hOf j)).view.WordExact} {hdst' : (rV true (slot j)).view.WordExact}
    {hsem' : DmaTarget.Typed .vmem (.dma (xsem true true j)) (.remote (Dev.tc n' : Thread nD τ) (rV true (slot j)) (.dma (xsem true false j)) hsc')}
    {k : PUnit → Prog (TpuEff nD τ sig (Elt F) Λ₀ .tc) α} :
    iprop(Ctx m K ∗ Ow j.val c ∗ Un2 j.val c ∗ Pe2 i c ∗ St false c (tAt m sc false (pOf i) c (hOf i).val) ∗ St true c (tAt m sc true (pOf i) c (hOf i).val) ∗ Cl2 i.val c ∗ Nx false c (prt m c (ch false 0 c) (col false (pOf j)))
        ∗ Nx true c (prt m c (ch true 0 c) (col true (pOf j))))
      ⊢ iprop(((Ow (j.val + 1) c ∗ Un2 (j.val + 1) c ∗ Pe2 j c ∗ St false c (tAt m sc false (pOf i) c ((hOf i).val + 1)) ∗ St true c (tAt m sc true (pOf i) c ((hOf i).val + 1)) ∗ Cl2 (i.val + 1) c ∗ Nx false c (prt m c (ch false 0 c) (col false (pOf j)))
            ∗ Nx true c (prt m c (ch true 0 c) (col true (pOf j)))) -∗ WP c (k ⟨⟩) Q)
          -∗ WP c (.op (.waitDma2 (xsem false false i) (rV false (slot i)) (sV false (hOf i)) h1 h2) fun _ =>
              .op (.waitDma2 (xsem false true i) (sV false (hOf i)) (rV false (slot i)) h3 h4) fun _ =>
              .op (.waitDma2 (xsem true false i) (rV true (slot i)) (sV true (hOf i)) h5 h6) fun _ =>
              .op (.waitDma2 (xsem true true i) (sV true (hOf i)) (rV true (slot i)) h7 h8) fun _ =>
              .op (.load (tM false) (hR (hOf i)).toLoadRect l1) fun v => .op (.load (rM false) (rR (slot i)).toLoadRect r1) fun u =>
              .op (.load (tM false) (hR (hOf i)).toLoadRect l2) fun _ => .op (.store (tM false) (hR (hOf i)) (k0_pay34 sc v u) Finset.univ x1 m1) fun _ =>
              .op (.load (tM true) (hR (hOf i)).toLoadRect l3) fun v' => .op (.load (rM true) (rR (slot i)).toLoadRect r2) fun u' =>
              .op (.load (tM true) (hR (hOf i)).toLoadRect l4) fun _ => .op (.store (tM true) (hR (hOf i)) (k0_pay34 sc v' u') Finset.univ x2 m2) fun _ =>
              .op (.load (nM false) (hR (hOf j)).toLoadRect l5) fun v => .op (.load (sM false) (sR (hOf j)).toLoadRect l6) fun _ =>
              .op (.store (sM false) (sR (hOf j)) (k0_pay9 v) Finset.univ x3 m3) fun _ =>
              .op (.load (nM true) (hR (hOf j)).toLoadRect l7) fun v' => .op (.load (sM true) (sR (hOf j)).toLoadRect l8) fun _ =>
              .op (.store (sM true) (sR (hOf j)) (k0_pay9 v') Finset.univ x4 m4) fun _ =>
              .op (.enqueueDma (sV false (hOf j)) (.remote (Dev.tc n : Thread nD τ) (rV false (slot j)) (.dma (xsem false false j)) hsc)
                (.dma (xsem false true j)) hsrc hdst hsem) fun _ =>
              .op (.enqueueDma (sV true (hOf j)) (.remote (Dev.tc n' : Thread nD τ) (rV true (slot j)) (.dma (xsem true false j)) hsc')
                (.dma (xsem true true j)) hsrc' hdst' hsem') k) Q) := by
  iintro ⟨#HC, HO, HU, HP, HS, HS', HL, HA, HB⟩ Hk
  ihave HP := (pe_open i c) $$ HP
  icases HP with ⟨HP, HP'⟩
  iapply (wp_wait2 m K c false i j.val (by omega)) $$ [HO HP]
  · isplitr; · iexact HC
    isplitl [HO] <;> iassumption
  iintro ⟨HO, HG⟩
  iapply (wp_wait2 m K c true i j.val (by omega)) $$ [HO HP']
  · isplitr; · iexact HC
    isplitl [HO] <;> iassumption
  iintro ⟨HO, HG'⟩
  unfold Got
  icases HG with ⟨Hz, Hs, Hr, Ha⟩
  icases HG' with ⟨Hz', Hs', Hr', Ha'⟩
  ihave Hs := (Entails.of_eq (congrArg (fun h => Any (F := F) c (sM false) (sR h)) (hOf_add i j hj).symm)) $$ Hs
  ihave Hs' := (Entails.of_eq (congrArg (fun h => Any (F := F) c (sM true) (sR h)) (hOf_add i j hj).symm)) $$ Hs'
  iapply (wp_epi false c (hOf i) (slot i) sc _ _) $$ [HS Hr]
  · isplitl [HS] <;> iassumption
  iintro ⟨HS, Hr⟩
  rw [tAt_step m sc false i hs c]
  iapply (wp_epi true c (hOf i) (slot i) sc _ _) $$ [HS' Hr']
  · isplitl [HS'] <;> iassumption
  iintro ⟨HS', Hr'⟩
  rw [tAt_step m sc true i hs c]
  iapply (wp_fill_first false c (hOf j) _) $$ [HA Hs]
  · isplitl [HA] <;> iassumption
  iintro ⟨HA, Hs⟩
  rw [← sent_first m false j hs' c]
  iapply (wp_fill_first true c (hOf j) _) $$ [HB Hs']
  · isplitl [HB] <;> iassumption
  iintro ⟨HB, Hs'⟩
  rw [← sent_first m true j hs' c]
  ihave HU := (un_step j c) $$ HU
  icases HU with ⟨⟨Hu, Hu'⟩, HU⟩
  ihave HT := (turn m i j hj c) $$ [Hz Hr Ha Hs Hu Hz' Hr' Ha' Hs' Hu']
  · unfold Turn
    isplitl [Hz Hr Ha Hs Hu]
    · isplitl [Hz]; · iexact Hz
      isplitl [Hr]; · iexact Hr
      isplitl [Ha]; · iexact Ha
      isplitl [Hs] <;> iassumption
    · isplitl [Hz']; · iexact Hz'
      isplitl [Hr']; · iexact Hr'
      isplitl [Ha']; · iexact Ha'
      isplitl [Hs'] <;> iassumption
  icases HT with ⟨⟨Hg, Hg'⟩, Hc, Hq⟩
  iapply (wp_send2 m K c j hn hn') $$ [HO Hg Hg']
  · isplitr; · iexact HC
    isplitl [HO]; · iexact HO
    isplitl [Hg] <;> iassumption
  iintro ⟨HO, Hz⟩
  iapply Hk
  isplitl [HO]; · iexact HO
  isplitl [HU]; · iexact HU
  isplitl [Hq Hz]
  · iapply (pe_of j c); isplitl [Hq] <;> iassumption
  isplitl [HS]; · iexact HS
  isplitl [HS']; · iexact HS'
  isplitl [Hc HL]
  · iapply (cl_step i c); isplitl [Hc] <;> iassumption
  isplitl [HA] <;> iassumption

/-- At the end of the last pass. -/
theorem half_last (c : Dev nD) (i : Fin 24) (hi : 22 ≤ i.val) (hs : stOf i = 2) (sc : F .f32) {Q : α → sProp 𝕄}
    {h1 : (rV false (slot i)).view.WordExact} {h2 : (sV false (hOf i)).view.WordExact} {h3 : (sV false (hOf i)).view.WordExact} {h4 : (rV false (slot i)).view.WordExact}
    {h5 : (rV true (slot i)).view.WordExact} {h6 : (sV true (hOf i)).view.WordExact} {h7 : (sV true (hOf i)).view.WordExact} {h8 : (rV true (slot i)).view.WordExact}
    {l1 : (tM false).view.LoadsAt (hR (hOf i)).toLoadRect} {r1 : (rM false).view.LoadsAt (rR (slot i)).toLoadRect} {l2 : (tM false).view.LoadsAt (hR (hOf i)).toLoadRect}
    {x1 : ((tM false).access (hR (hOf i))).Stores Finset.univ} {m1 : (Finset.univ : Finset (hR (hOf i)).shape.Idx) = Finset.univ ∨ ∀ a, (hR (hOf i)).stride a = 1}
    {l3 : (tM true).view.LoadsAt (hR (hOf i)).toLoadRect} {r2 : (rM true).view.LoadsAt (rR (slot i)).toLoadRect} {l4 : (tM true).view.LoadsAt (hR (hOf i)).toLoadRect}
    {x2 : ((tM true).access (hR (hOf i))).Stores Finset.univ} {m2 : (Finset.univ : Finset (hR (hOf i)).shape.Idx) = Finset.univ ∨ ∀ a, (hR (hOf i)).stride a = 1}
    {k : PUnit → Prog (TpuEff nD τ sig (Elt F) Λ₀ .tc) α} :
    iprop(Ctx m K ∗ Ow 24 c ∗ Pe2 i c ∗ St false c (tAt m sc false (pOf i) c (hOf i).val) ∗ St true c (tAt m sc true (pOf i) c (hOf i).val) ∗ Cl2 i.val c)
      ⊢ iprop(((Ow 24 c ∗ St false c (tAt m sc false (pOf i) c ((hOf i).val + 1)) ∗ St true c (tAt m sc true (pOf i) c ((hOf i).val + 1)) ∗ Cl2 (i.val + 1) c) -∗ WP c (k ⟨⟩) Q)
          -∗ WP c (.op (.waitDma2 (xsem false false i) (rV false (slot i)) (sV false (hOf i)) h1 h2) fun _ =>
              .op (.waitDma2 (xsem false true i) (sV false (hOf i)) (rV false (slot i)) h3 h4) fun _ =>
              .op (.waitDma2 (xsem true false i) (rV true (slot i)) (sV true (hOf i)) h5 h6) fun _ =>
              .op (.waitDma2 (xsem true true i) (sV true (hOf i)) (rV true (slot i)) h7 h8) fun _ =>
              .op (.load (tM false) (hR (hOf i)).toLoadRect l1) fun v => .op (.load (rM false) (rR (slot i)).toLoadRect r1) fun u =>
              .op (.load (tM false) (hR (hOf i)).toLoadRect l2) fun _ => .op (.store (tM false) (hR (hOf i)) (k0_pay34 sc v u) Finset.univ x1 m1) fun _ =>
              .op (.load (tM true) (hR (hOf i)).toLoadRect l3) fun v' => .op (.load (rM true) (rR (slot i)).toLoadRect r2) fun u' =>
              .op (.load (tM true) (hR (hOf i)).toLoadRect l4) fun _ => .op (.store (tM true) (hR (hOf i)) (k0_pay34 sc v' u') Finset.univ x2 m2) k) Q) := by
  iintro ⟨#HC, HO, HP, HS, HS', HL⟩ Hk
  ihave HP := (pe_open i c) $$ HP
  icases HP with ⟨HP, HP'⟩
  iapply (wp_wait2 m K c false i 24 i.isLt) $$ [HO HP]
  · isplitr; · iexact HC
    isplitl [HO] <;> iassumption
  iintro ⟨HO, HG⟩
  iapply (wp_wait2 m K c true i 24 i.isLt) $$ [HO HP']
  · isplitr; · iexact HC
    isplitl [HO] <;> iassumption
  iintro ⟨HO, HG'⟩
  unfold Got
  icases HG with ⟨Hz, Hs, Hr, Ha⟩
  icases HG' with ⟨Hz', Hs', Hr', Ha'⟩
  iapply (wp_epi false c (hOf i) (slot i) sc _ _) $$ [HS Hr]
  · isplitl [HS] <;> iassumption
  iintro ⟨HS, Hr⟩
  rw [tAt_step m sc false i hs c]
  iapply (wp_epi true c (hOf i) (slot i) sc _ _) $$ [HS' Hr']
  · isplitl [HS'] <;> iassumption
  iintro ⟨HS', Hr'⟩
  rw [tAt_step m sc true i hs c]
  iapply Hk
  isplitl [HO]; · iexact HO
  isplitl [HS]; · iexact HS
  isplitl [HS']; · iexact HS'
  iapply (cl_step i c)
  isplitr [HL]
  · unfold ClX
    rw [if_pos (show 20 ≤ i.val by omega), if_pos hi, if_pos (show 20 ≤ i.val by omega), if_pos hi]
    isplitl [Hz Hr Hs]
    · isplitl [Hz]; · iexact Hz
      isplitl [Hr]; · iapply (Own_any c _ _ _); iexact Hr
      iexact Hs
    · isplitl [Hz']; · iexact Hz'
      isplitl [Hr']; · iapply (Own_any c _ _ _); iexact Hr'
      iexact Hs'
  iexact HL

end Half

end Cert.KernelProof

end
-- ==== Proof.Blocks.lean ====
/-
Loading a block of either operand, multiplying two blocks, and copying a block
of the result out, each as one rule.
-/
module

public import proofs.«01_k».proof.Proof.Steps

@[expose] public section

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : GSem nD τ sig → ℕ)

/-- The two operands as they stand, the staging buffer and its semaphore, and what is owed. -/
def HX (c : Dev nD) : sProp 𝕄 := ((c : Thread nD τ).loc main_arg0) ↦{fullShare} m ((c : Thread nD τ).loc main_arg0)
def HW (c : Dev nD) : sProp 𝕄 := ((c : Thread nD τ).loc main_arg1) ↦{fullShare} m ((c : Thread nD τ).loc main_arg1)
def Stg (c : Dev nD) : sProp 𝕄 := iprop((∃ w, Gb c w) ∗ semVal (gC c) 0)

/-- Block `r` places round of `x`, a slot of the weight buffer holding block `n`. -/
def XX (c : Dev nD) (r : ℕ) : sProp 𝕄 := Own c xM (xR (xj r c)) (xch m c (xj r c))
def X0 (c : Dev nD) (r : ℕ) : sProp 𝕄 := Any (F := F) c xM (xR (xj r c))
def WW (c : Dev nD) (u v : Fin 2) (n : Fin 8) : sProp 𝕄 := Own c wM (wR u v) (wch m c n)
def W0 (c : Dev nD) (u v : Fin 2) : sProp 𝕄 := Any (F := F) c wM (wR u v)

section Rules
variable {α : Type}

/-- A block of an operand copied into the staging buffer, and waited for. -/
theorem wp_fetch (c : Dev nD) (n : ℕ) (V : Memref sig .tc .hbm S1024x1024 .f32) (f : Buf (Elt F) (V.view.loc (c : Thread nD τ))) {Q : α → sProp 𝕄}
    {V' : Memref sig .tc .hbm S1024x1024 .f32}
    {h1 : V.view.WordExact} {h2 : gM.view.WordExact} {h3 : (DmaTarget.here gM : DmaTarget nD τ sig .tc .vmem S1024x1024 .f32).Typed .hbm (.dma gsem)} {h4 : V'.view.WordExact} {h5 : gM.view.WordExact}
    {k : PUnit → Prog (TpuEff nD τ sig (Elt F) Λ₀ .tc) α} :
    iprop(Ctx m K ∗ (V.view.loc (c : Thread nD τ) ↦{fullShare} f) ∗ Stg c ∗ Ow n c)
      ⊢ iprop((((V.view.loc (c : Thread nD τ) ↦{fullShare} f) ∗ (Gb c (V.view.read (Elt F) f) ∗ semVal (gC c) 0) ∗ Ow n c) -∗ WP c (k ⟨⟩) Q)
          -∗ WP c (.op (.enqueueDma V (.here gM) (.dma gsem) h1 h2 h3) fun _ => .op (.waitDma2 gsem V' gM h4 h5) k) Q) := by
  unfold Stg Ow
  iintro ⟨#HC, Hv, ⟨⟨%w, Hg⟩, Hs⟩, ⟨%W, HO⟩⟩ Hk
  ihave Hv := (pointsTo_split_subset (Finset.subset_univ V.view.set)).1 $$ Hv
  icases Hv with ⟨Hv, Hr⟩
  unfold Gb
  iapply (wp_dmaLocal EC 𝒱₀ (c : Thread nD τ) none (src := V) (dst := gM) (sm := .dma gsem) (via := ReadAs.same) (q := fullShare) (fs := f) (fd := w) (Sd := Finset.univ) ()
      gM.view.dmaCredit rfl (View.dmaCredit_pos _ (by decide)) (Finset.subset_univ _)) $$ [Hv Hg Hs]
  · isplitl [Hv]; · iexact Hv
    isplitl [Hg]; · iexact Hg
    iexact Hs
  iintro HF
  iapply (wp_waitLocalO EC 𝒱₀ (c : Thread nD τ) none () (N := gM.view.dmaCredit) rfl (O := OO n c) (W := W)) $$ [HF HO]
  · isplitl [HF]; · iexact HF
    isplitl [HO]; · iexact HO
    iapply (mayWait c _ n (by rw [lvS_g]; omega)); iapply (ctx_lev m K); iexact HC
  iintro ⟨⟨Hg, Hv⟩, Hs, HO⟩
  iapply Hk
  isplitl [Hv Hr]
  · iapply (pointsTo_split_subset (Finset.subset_univ V.view.set)).2
    isplitl [Hv] <;> iassumption
  isplitl [Hg Hs]
  · isplitl [Hg]
    · rw [show gM.view.write (Elt F) w ((ReadAs.same (Val := Elt F)).apply (V.view.read (Elt F) f)) Finset.univ = V.view.read (Elt F) f from View.write_whole_univ ..]
      iexact Hg
    iexact Hs
  iexists _; iexact HO

/-- The block just fetched, read back and kept in its slot of the `x` buffer. -/
theorem wp_loadx (c : Dev nD) (n r : ℕ) {o o' : Fin 2 → ℕ} {hi : ∀ a, o a + S1024x1024.size a ≤ S4096x1024.size a} {hi' : ∀ a, o' a + S1024x1024.size a ≤ S4096x1024.size a}
    (ho : o = ![1024 * (xj r c).val, 0]) (ho' : o' = ![1024 * (xj r c).val, 0]) {Q : α → sProp 𝕄}
    {V' : Memref sig .tc .hbm S1024x1024 .f32}
    {h1 : (aX.slice (Rect.unit (s := S4096x1024) o S1024x1024.size hi) (fun _ => rfl)).view.WordExact} {h2 : gM.view.WordExact}
    {h3 : (DmaTarget.here gM : DmaTarget nD τ sig .tc .vmem S1024x1024 .f32).Typed .hbm (.dma gsem)} {h4 : V'.view.WordExact} {h5 : gM.view.WordExact}
    {hl : gM.view.LoadsAt fR.toLoadRect} {hl' : xM.view.LoadsAt (Rect.unit (s := S4096x1024) o' S1024x1024.size hi').toLoadRect}
    {hx : (xM.access (Rect.unit (s := S4096x1024) o' S1024x1024.size hi')).Stores Finset.univ}
    {hm : (Finset.univ : Finset (Rect.unit (s := S4096x1024) o' S1024x1024.size hi').shape.Idx) = Finset.univ ∨ ∀ a, (Rect.unit (s := S4096x1024) o' S1024x1024.size hi').stride a = 1}
    {k : PUnit → Prog (TpuEff nD τ sig (Elt F) Λ₀ .tc) α} :
    iprop(Ctx m K ∗ HX m c ∗ Stg (F := F) c ∗ Ow n c ∗ X0 c r)
      ⊢ iprop((HX m c ∗ Stg c ∗ Ow n c ∗ XX m c r -∗ WP c (k ⟨⟩) Q)
          -∗ WP c (.op (.enqueueDma (aX.slice (Rect.unit (s := S4096x1024) o S1024x1024.size hi) (fun _ => rfl)) (.here gM) (.dma gsem) h1 h2 h3) fun _ =>
            .op (.waitDma2 gsem V' gM h4 h5) fun _ => .op (.load gM fR.toLoadRect hl) fun v =>
            .op (.load xM (Rect.unit (s := S4096x1024) o' S1024x1024.size hi').toLoadRect hl') fun _ =>
            .op (.store xM (Rect.unit (s := S4096x1024) o' S1024x1024.size hi') (k0_pay4 v) Finset.univ hx hm) k) Q) := by
  subst ho ho'
  unfold HX X0 XX
  iintro ⟨#HC, HX, HG, HO, Hx⟩ Hk
  iapply (wp_fetch m K c n _ _) $$ [HX HG HO]
  · isplitr; · iexact HC
    isplitl [HX]; · iexact HX
    isplitl [HG] <;> iassumption
  iintro ⟨HX, ⟨HG, Hs⟩, HO⟩
  unfold Gb
  iapply (wp_load_rect 𝒱₀ (c : Thread nD τ) none Set.univ (m := gM) (r := fR) (S := Finset.univ) (Finset.subset_univ _)) $$ HG; iintro HG
  iapply (wp_load_any c) $$ Hx; iintro Hx
  iapply (wp_store_any c) $$ Hx; iintro Hx
  iapply Hk
  isplitl [HX]; · iexact HX
  isplitl [HG Hs]
  · unfold Stg Gb
    isplitl [HG]
    · iexists _; iexact HG
    iexact Hs
  isplitl [HO]; · iexact HO
  iapply (Entails.of_eq (congrArg (Own c xM (xR (xj r c))) (congrArg k0_pay4 (Memref.readAt_unit_zero (Elt F) cc0_scratch2 hz _ _)))); iexact Hx

/-- The same of a block of the weights. -/
theorem wp_loadw (c : Dev nD) (n : ℕ) (u v : Fin 2) (b : Fin 8) {Q : α → sProp 𝕄}
    {V' : Memref sig .tc .hbm S1024x1024 .f32}
    {h1 : (aW.slice (oR b) (fun _ => rfl)).view.WordExact} {h2 : gM.view.WordExact}
    {h3 : (DmaTarget.here gM : DmaTarget nD τ sig .tc .vmem S1024x1024 .f32).Typed .hbm (.dma gsem)} {h4 : V'.view.WordExact} {h5 : gM.view.WordExact}
    {hl : gM.view.LoadsAt fR.toLoadRect} {hl' : wM.view.LoadsAt (wR u v).toLoadRect}
    {hx : (wM.access (wR u v)).Stores Finset.univ}
    {hm : (Finset.univ : Finset (wR u v).shape.Idx) = Finset.univ ∨ ∀ a, (wR u v).stride a = 1}
    {k : PUnit → Prog (TpuEff nD τ sig (Elt F) Λ₀ .tc) α} :
    iprop(Ctx m K ∗ HW m c ∗ Stg (F := F) c ∗ Ow n c ∗ W0 c u v)
      ⊢ iprop((HW m c ∗ Stg c ∗ Ow n c ∗ WW m c u v b -∗ WP c (k ⟨⟩) Q)
          -∗ WP c (.op (.enqueueDma (aW.slice (oR b) (fun _ => rfl)) (.here gM) (.dma gsem) h1 h2 h3) fun _ =>
            .op (.waitDma2 gsem V' gM h4 h5) fun _ => .op (.load gM fR.toLoadRect hl) fun x =>
            .op (.load wM (wR u v).toLoadRect hl') fun _ =>
            .op (.store wM (wR u v) (k0_pay2 x) Finset.univ hx hm) k) Q) := by
  unfold HW W0 WW
  iintro ⟨#HC, HX, HG, HO, Hx⟩ Hk
  iapply (wp_fetch m K c n _ _) $$ [HX HG HO]
  · isplitr; · iexact HC
    isplitl [HX]; · iexact HX
    isplitl [HG] <;> iassumption
  iintro ⟨HX, ⟨HG, Hs⟩, HO⟩
  unfold Gb
  iapply (wp_load_rect 𝒱₀ (c : Thread nD τ) none Set.univ (m := gM) (r := fR) (S := Finset.univ) (Finset.subset_univ _)) $$ HG; iintro HG
  iapply (wp_load_any c) $$ Hx; iintro Hx
  iapply (wp_store_any c) $$ Hx; iintro Hx
  iapply Hk
  isplitl [HX]; · iexact HX
  isplitl [HG Hs]
  · unfold Stg Gb
    isplitl [HG]
    · iexists _; iexact HG
    iexact Hs
  isplitl [HO]; · iexact HO
  iapply (Entails.of_eq (congrArg (Own c wM (wR u v)) (congrArg k0_pay2 (Memref.readAt_unit_zero (Elt F) cc0_scratch2 hz _ _)))); iexact Hx

/-- A weight slot may be filled anew. -/
theorem WW_free (c : Dev nD) (u v : Fin 2) (b : Fin 8) : WW m c u v b ⊢ W0 (F := F) c u v := by
  unfold WW W0 Own Any
  iintro ⟨%f, %_, H⟩
  iexists f; iexact H

/-- The product of two blocks, rounded, into the buffer of the next block to send. -/
theorem wp_dot (d : Bool) (c : Dev nD) (r : ℕ) (u v : Fin 2) (b : Fin 8) (w : Vec F S1024x1024 .bf16) {o : Fin 2 → ℕ} {hi : ∀ a, o a + S1024x1024.size a ≤ S4096x1024.size a}
    (ho : o = ![1024 * (xj r c).val, 0]) {Q : α → sProp 𝕄}
    {hl : xM.view.LoadsAt (Rect.unit (s := S4096x1024) o S1024x1024.size hi).toLoadRect} {hl' : wM.view.LoadsAt (wR u v).toLoadRect}
    {hd : (nM d).view.LoadsAt fR.toLoadRect} {hx : ((nM d).access fR).Stores Finset.univ}
    {hm : (Finset.univ : Finset fR.shape.Idx) = Finset.univ ∨ ∀ a, fR.stride a = 1} {k : PUnit → Prog (TpuEff nD τ sig (Elt F) Λ₀ .tc) α} :
    iprop(XX m c r ∗ WW m c u v b ∗ Nx d c w)
      ⊢ iprop((XX m c r ∗ WW m c u v b ∗ Nx d c (prt m c (xj r c) b) -∗ WP c (k ⟨⟩) Q)
          -∗ WP c (.op (.load xM (Rect.unit (s := S4096x1024) o S1024x1024.size hi).toLoadRect hl) fun x =>
            .op (.load wM (wR u v).toLoadRect hl') fun y => .op (.load (nM d) fR.toLoadRect hd) fun _ =>
            .op (.store (nM d) fR (k0_pay7 x y) Finset.univ hx hm) k) Q) := by
  subst ho
  unfold XX WW
  iintro ⟨Hx, Hw, Hn⟩ Hk
  iapply (wp_load_own c) $$ Hx; iintro Hx
  iapply (wp_load_own c) $$ Hw; iintro Hw
  iapply (wp_load_next d c w fR) $$ Hn; iintro Hn
  iapply (wp_store_next d c w) $$ Hn; iintro Hn
  iapply Hk
  isplitl [Hx]; · iexact Hx
  isplitl [Hw]; · iexact Hw
  iexact Hn

/-- The product of two blocks at full precision, into the stage buffer. -/
theorem wp_dot_stage (d : Bool) (c : Dev nD) (r : ℕ) (u v : Fin 2) (b : Fin 8) (w : Vec F S1024x1024 .f32) {o : Fin 2 → ℕ} {hi : ∀ a, o a + S1024x1024.size a ≤ S4096x1024.size a}
    (ho : o = ![1024 * (xj r c).val, 0]) {Q : α → sProp 𝕄}
    {hl : xM.view.LoadsAt (Rect.unit (s := S4096x1024) o S1024x1024.size hi).toLoadRect} {hl' : wM.view.LoadsAt (wR u v).toLoadRect}
    {hd : (tM d).view.LoadsAt fR.toLoadRect} {hx : ((tM d).access fR).Stores Finset.univ}
    {hm : (Finset.univ : Finset fR.shape.Idx) = Finset.univ ∨ ∀ a, fR.stride a = 1} {k : PUnit → Prog (TpuEff nD τ sig (Elt F) Λ₀ .tc) α} :
    iprop(XX m c r ∗ WW m c u v b ∗ St d c w)
      ⊢ iprop((XX m c r ∗ WW m c u v b ∗ St d c (prtF m c (xj r c) b) -∗ WP c (k ⟨⟩) Q)
          -∗ WP c (.op (.load xM (Rect.unit (s := S4096x1024) o S1024x1024.size hi).toLoadRect hl) fun x =>
            .op (.load wM (wR u v).toLoadRect hl') fun y => .op (.load (tM d) fR.toLoadRect hd) fun _ =>
            .op (.store (tM d) fR (k0_pay30 x y) Finset.univ hx hm) k) Q) := by
  subst ho
  unfold XX WW
  iintro ⟨Hx, Hw, Hn⟩ Hk
  iapply (wp_load_own c) $$ Hx; iintro Hx
  iapply (wp_load_own c) $$ Hw; iintro Hw
  iapply (wp_load_stage d c w fR) $$ Hn; iintro Hn
  iapply (wp_store_stage d c w fR) $$ Hn; iintro Hn
  iapply Hk
  isplitl [Hx]; · iexact Hx
  isplitl [Hw]; · iexact Hw
  rw [show ((tM false).access fR).write (Elt F) w (k0_pay30 (xch m c (xj r c)) (wch m c b)) Finset.univ = prtF m c (xj r c) b
    from Memref.write_access_unit_zero_univ (Elt F) cc0_scratch9 hz _ w _]
  iexact Hn

/-- Block `b` of the result, before it is written and after. -/
def Out0 (c : Dev nD) (b : Fin 8) : sProp 𝕄 := iprop(Any (F := F) c oM (oR b) ∗ semVal (oC b c) 0)
def oN (b : Fin 8) : ℕ := (oM.slice (oR b) (fun _ => rfl)).view.dmaCredit
theorem oN_pos (b : Fin 8) : 0 < oN b := View.dmaCredit_pos _ (by
  have h : (oR b).shape = S1024x1024 := rfl
  rw [h]; decide)
theorem amount_out (b : Fin 8) : (oM.slice (oR b) (fun _ => rfl)).view.amount (.dma (osem b)) = oN b := by
  unfold oN; rfl
def OutF (d : Bool) (c : Dev nD) (b : Fin 8) (w : Vec F S1024x1024 .f32) : sProp 𝕄 :=
  Flight EC (c : Thread nD τ) (.dma (osem b)) () (oN b) iprop(Own c oM (oR b) w ∗ St d c w)
def OutD (c : Dev nD) (b : Fin 8) (w : Vec F S1024x1024 .f32) : sProp 𝕄 := iprop(Own c oM (oR b) w ∗ semVal (oC b c) 0)

theorem St_set (d : Bool) (c : Dev nD) (w : Vec F S1024x1024 .f32) :
    St d c w ⊣⊢ (match d with
      | false => ((tM false).view.loc (c : Thread nD τ) ↦[(tM false).view.set]{fullShare} w)
      | true => ((tM true).view.loc (c : Thread nD τ) ↦[(tM true).view.set]{fullShare} w)) := by
  cases d
  · dsimp only; unfold St; dsimp only
    rw [show (tM false).view.set = Finset.univ from View.set_whole _]
  · dsimp only; unfold St; dsimp only
    rw [show (tM true).view.set = Finset.univ from View.set_whole _]

theorem out_any (c : Dev nD) (b : Fin 8) : Any (F := F) c oM (oR b) ⊢ iprop(∃ f : Buf (Elt F) (oM.view.loc (c : Thread nD τ)),
    (oM.slice (oR b) (fun _ => rfl)).view.loc (c : Thread nD τ) ↦[(oM.slice (oR b) (fun _ => rfl)).view.set]{fullShare} f) := by
  unfold Any
  iintro ⟨%f, H⟩
  iexists f; iexact H

theorem out_own (c : Dev nD) (b : Fin 8) (w : Vec F S1024x1024 .f32) (f : Buf (Elt F) (oM.view.loc (c : Thread nD τ))) :
    ((oM.slice (oR b) (fun _ => rfl)).view.loc (c : Thread nD τ) ↦[(oM.slice (oR b) (fun _ => rfl)).view.set]{fullShare}
      ((oM.slice (oR b) (fun _ => rfl)).view.write (Elt F) f w Finset.univ)) ⊢ Own (F := F) c oM (oR b) w := by
  unfold Own
  iintro H
  iexists ((oM.slice (oR b) (fun _ => rfl)).view.write (Elt F) f w Finset.univ)
  isplitr [H]
  · ipureintro
    exact View.read_write_univ (v := oM.access (oR b)) f w
  · iexact H

theorem flight_out (d : Bool) (c : Dev nD) (b : Fin 8) (w : Vec F S1024x1024 .f32) (A B : sProp 𝕄) (hA : A ⊢ Own c oM (oR b) w) (hB : B ⊢ St d c w) :
    Flight EC (c : Thread nD τ) (.dma (osem b)) () (oN b) iprop(A ∗ B) ⊢ OutF d c b w := by
  unfold OutF
  refine Flight_mono EC (c : Thread nD τ) ?_
  iintro ⟨Ha, Hb⟩
  isplitl [Ha]
  · iapply hA; iexact Ha
  · iapply hB; iexact Hb

theorem wp_out (d : Bool) (c : Dev nD) (b : Fin 8) (w : Vec F S1024x1024 .f32) {Q : α → sProp 𝕄}
    {h1 : (tM d).view.WordExact} {h2 : (oM.slice (oR b) (fun _ => rfl)).view.WordExact}
    {h3 : (DmaTarget.here (oM.slice (oR b) (fun _ => rfl)) : DmaTarget nD τ sig .tc .hbm S1024x1024 .f32).Typed .vmem (.dma (osem b))}
    {k : PUnit → Prog (TpuEff nD τ sig (Elt F) Λ₀ .tc) α} :
    iprop(St d c w ∗ Out0 c b)
      ⊢ iprop((OutF d c b w -∗ WP c (k ⟨⟩) Q)
          -∗ WP c (.op (.enqueueDma (tM d) (.here (oM.slice (oR b) (fun _ => rfl))) (.dma (osem b)) h1 h2 h3) k) Q) := by
  unfold Out0
  iintro ⟨Ht, Ho, Hs⟩ Hk
  ihave Ho := (out_any c b) $$ Ho
  icases Ho with ⟨%f, Ho⟩
  ihave Ht := (St_set d c w).1 $$ Ht
  cases d
  · dsimp only
    iapply (wp_dmaLocal EC 𝒱₀ (c : Thread nD τ) none (src := tM false) (dst := oM.slice (oR b) (fun _ => rfl)) (sm := .dma (osem b)) (via := ReadAs.same) (q := fullShare)
        (fs := w) (fd := f) (Sd := (oM.slice (oR b) (fun _ => rfl)).view.set) () (oN b) (amount_out b) (oN_pos b) (Finset.Subset.refl _)) $$ [Ht Ho Hs]
    · isplitl [Ht]; · iexact Ht
      isplitl [Ho]; · iexact Ho
      iexact Hs
    iintro HF
    iapply Hk
    iapply (flight_out false c b w _ _ (out_own c b w f) (St_set false c w).2); iexact HF
  · dsimp only
    iapply (wp_dmaLocal EC 𝒱₀ (c : Thread nD τ) none (src := tM true) (dst := oM.slice (oR b) (fun _ => rfl)) (sm := .dma (osem b)) (via := ReadAs.same) (q := fullShare)
        (fs := w) (fd := f) (Sd := (oM.slice (oR b) (fun _ => rfl)).view.set) () (oN b) (amount_out b) (oN_pos b) (Finset.Subset.refl _)) $$ [Ht Ho Hs]
    · isplitl [Ht]; · iexact Ht
      isplitl [Ho]; · iexact Ho
      iexact Hs
    iintro HF
    iapply Hk
    iapply (flight_out true c b w _ _ (out_own c b w f) (St_set true c w).2); iexact HF

theorem wp_out_wait (d : Bool) (c : Dev nD) (n : ℕ) (b : Fin 8) (w : Vec F S1024x1024 .f32) {Q : α → sProp 𝕄}
    {h1 : (tM d).view.WordExact} {h2 : (oM.slice (oR b) (fun _ => rfl)).view.WordExact}
    {k : PUnit → Prog (TpuEff nD τ sig (Elt F) Λ₀ .tc) α} :
    iprop(Ctx m K ∗ OutF d c b w ∗ Ow n c)
      ⊢ iprop((St d c w ∗ OutD c b w ∗ Ow n c -∗ WP c (k ⟨⟩) Q)
          -∗ WP c (.op (.waitDma2 (osem b) (tM d) (oM.slice (oR b) (fun _ => rfl)) h1 h2) k) Q) := by
  unfold OutF Ow OutD
  iintro ⟨#HC, HF, ⟨%W, HO⟩⟩ Hk
  iapply (wp_waitLocalO EC 𝒱₀ (c : Thread nD τ) none () (N := oN b) rfl (O := OO n c) (W := W)) $$ [HF HO]
  · isplitl [HF]; · iexact HF
    isplitl [HO]; · iexact HO
    iapply (mayWait c _ n (by rw [lvS_o]; omega)); iapply (ctx_lev m K); iexact HC
  iintro ⟨⟨Ho, Ht⟩, Hs, HO⟩
  iapply Hk
  isplitl [Ht]; · iexact Ht
  isplitl [Ho Hs]
  · isplitl [Ho] <;> iassumption
  iexists _; iexact HO

end Rules

end Cert.KernelProof

end
-- ==== Proof.Curry.lean ====
/-
The rules of a step take what they need one by one, and the closed forms of
where a device's blocks of rows stand.
-/
module

public import proofs.«01_k».proof.Proof.Ring
public import proofs.«01_k».proof.Proof.Blocks

@[expose] public section

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Curry

theorem cur2 {A B R : sProp 𝕄} (h : iprop(A ∗ B) ⊢ R) : A ⊢ iprop(B -∗ R) := by
  iintro Ha Hb; iapply h; isplitl [Ha] <;> iassumption
theorem cur3 {A B C R : sProp 𝕄} (h : iprop(A ∗ B ∗ C) ⊢ R) : A ⊢ iprop(B -∗ C -∗ R) := by
  iintro Ha Hb Hc; iapply h; isplitl [Ha]; · iexact Ha
  isplitl [Hb] <;> iassumption
theorem cur5 {A B C D E R : sProp 𝕄} (h : iprop(A ∗ B ∗ C ∗ D ∗ E) ⊢ R) : A ⊢ iprop(B -∗ C -∗ D -∗ E -∗ R) := by
  iintro Ha Hb Hc Hd He; iapply h; isplitl [Ha]; · iexact Ha
  isplitl [Hb]; · iexact Hb
  isplitl [Hc]; · iexact Hc
  isplitl [Hd] <;> iassumption
theorem cur6 {A B C D E G R : sProp 𝕄} (h : iprop(A ∗ B ∗ C ∗ D ∗ E ∗ G) ⊢ R) : A ⊢ iprop(B -∗ C -∗ D -∗ E -∗ G -∗ R) := by
  iintro Ha Hb Hc Hd He Hg; iapply h; isplitl [Ha]; · iexact Ha
  isplitl [Hb]; · iexact Hb
  isplitl [Hc]; · iexact Hc
  isplitl [Hd]; · iexact Hd
  isplitl [He] <;> iassumption
theorem cur7 {A B C D E G H R : sProp 𝕄} (h : iprop(A ∗ B ∗ C ∗ D ∗ E ∗ G ∗ H) ⊢ R) : A ⊢ iprop(B -∗ C -∗ D -∗ E -∗ G -∗ H -∗ R) := by
  iintro Ha Hb Hc Hd He Hg Hh; iapply h; isplitl [Ha]; · iexact Ha
  isplitl [Hb]; · iexact Hb
  isplitl [Hc]; · iexact Hc
  isplitl [Hd]; · iexact Hd
  isplitl [He]; · iexact He
  isplitl [Hg] <;> iassumption
theorem cur9 {A B C D E G H I J R : sProp 𝕄} (h : iprop(A ∗ B ∗ C ∗ D ∗ E ∗ G ∗ H ∗ I ∗ J) ⊢ R) : A ⊢ iprop(B -∗ C -∗ D -∗ E -∗ G -∗ H -∗ I -∗ J -∗ R) := by
  iintro Ha Hb Hc Hd He Hg Hh Hi Hj; iapply h; isplitl [Ha]; · iexact Ha
  isplitl [Hb]; · iexact Hb
  isplitl [Hc]; · iexact Hc
  isplitl [Hd]; · iexact Hd
  isplitl [He]; · iexact He
  isplitl [Hg]; · iexact Hg
  isplitl [Hh]; · iexact Hh
  isplitl [Hi] <;> iassumption
end Curry

/-! ## Where the blocks stand -/

theorem off1_1 (c : Dev nD) : k0_off1 c 1#32 = ![1024 * (xj 1 c).val, 0] := k0_off1_eq c 0
theorem off1_2 (c : Dev nD) : k0_off1 c 2#32 = ![1024 * (xj 2 c).val, 0] := k0_off1_eq c 1
theorem off1_3 (c : Dev nD) : k0_off1 c 3#32 = ![1024 * (xj 3 c).val, 0] := k0_off1_eq c 2
theorem off2_1 (c : Dev nD) : k0_off2 c 1#32 = ![1024 * (xj 1 c).val, 0] := k0_off2_eq c 0
theorem off2_2 (c : Dev nD) : k0_off2 c 2#32 = ![1024 * (xj 2 c).val, 0] := k0_off2_eq c 1
theorem off2_3 (c : Dev nD) : k0_off2 c 3#32 = ![1024 * (xj 3 c).val, 0] := k0_off2_eq c 2
theorem off3_0 (c : Dev nD) : k0_off3 c 0#32 = ![1024 * (xj 2 c).val, 0] := k0_off3_eq c 0
theorem off3_1 (c : Dev nD) : k0_off3 c 1#32 = ![1024 * (xj 1 c).val, 0] := k0_off3_eq c 1
theorem off4_0 (c : Dev nD) : k0_off4 c 0#32 = ![1024 * (xj 2 c).val, 0] := k0_off4_eq c 0
theorem off4_1 (c : Dev nD) : k0_off4 c 1#32 = ![1024 * (xj 3 c).val, 0] := k0_off4_eq c 1
theorem off5_0 (c : Dev nD) : k0_off5 c = ![1024 * (xj 0 c).val, 0] := by
  rw [k0_off5_eq, show (xj 0 c).val = c.val from Nat.mod_eq_of_lt c.isLt]
theorem off6_0 (c : Dev nD) : k0_off6 c = ![1024 * (xj 0 c).val, 0] := by
  rw [k0_off6_eq, show (xj 0 c).val = c.val from Nat.mod_eq_of_lt c.isLt]

/-- A device number reached by one step forwards, or backwards. -/
theorem isNxt {c : Dev nD} {n : ℕ} {h : n < nD} (e : n = (c.val + 1) % 4) : (⟨n, h⟩ : Dev nD) = nxt c := Fin.ext e
theorem isPrv {c : Dev nD} {n : ℕ} {h : n < nD} (e : n = (c.val + 3) % 4) : (⟨n, h⟩ : Dev nD) = prv c := Fin.ext e

/-- A kernel of these buffers, on the buffers the launch gives it. -/
abbrev onBufs {β : Type _} (f : (arg0 : Memref sig .tc .hbm S4096x1024 .f32) → arg0.IsWhole → (arg1 : Memref sig .tc .hbm S1024x8192 .f32) → arg1.IsWhole → (arg2 : Memref sig .tc .smem S1 .f32) → arg2.IsWhole → (arg3 : Memref sig .tc .smem S1 .f32) → arg3.IsWhole → (arg4 : Memref sig .tc .hbm S1024x8192 .f32) → arg4.IsWhole → (arg5 : Memref sig .tc .vmem S4096x1024 .bf16) → arg5.IsWhole → (arg6 : Memref sig .tc .vmem S2x2x1024x1024 .bf16) → arg6.IsWhole → (arg7 : Memref sig .tc .vmem S1024x1024 .f32) → arg7.IsWhole → (arg8 : Memref sig .tc .vmem S2x512x1024 .bf16) → arg8.IsWhole → (arg9 : Memref sig .tc .vmem S2x512x1024 .bf16) → arg9.IsWhole → (arg10 : Memref sig .tc .vmem S4x512x1024 .bf16) → arg10.IsWhole → (arg11 : Memref sig .tc .vmem S4x512x1024 .bf16) → arg11.IsWhole → (arg12 : Memref sig .tc .vmem S1024x1024 .bf16) → arg12.IsWhole → (arg13 : Memref sig .tc .vmem S1024x1024 .bf16) → arg13.IsWhole → (arg14 : Memref sig .tc .vmem S1024x1024 .f32) → arg14.IsWhole → (arg15 : Memref sig .tc .vmem S1024x1024 .f32) → arg15.IsWhole → DmaSems sig S_ → DmaSems sig S4x3x2 → DmaSems sig S4x3x2 → DmaSems sig S4x3x2 → DmaSems sig S4x3x2 → DmaSems sig S4x2 → β) : β :=
  f (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16

/-! ## The half-steps at numerals

Each rule of a half-step names its numbers through the transfer's number; here
they stand as the numerals the proof of the body carries. -/

section At
variable (m : (ℓ : Loc nD τ sig) → Buf (Elt F) ℓ) (K : GSem nD τ sig → ℕ)

theorem at_first {c : Dev nD} {j : Fin 24} (n n' r r' : ℕ) (b b' : Fin 8) {W W' : sProp 𝕄}
    (hn : j.val = n) (hn' : j.val + 1 = n') (hr : ch false 0 c = xj r c) (hr' : ch true 0 c = xj r' c) (hb : col false (pOf j) = b) (hb' : col true (pOf j) = b')
    (h : iprop(Ctx m K ∗ Ow j.val c ∗ Un2 j.val c ∗ Nx false c (prt m c (ch false 0 c) (col false (pOf j))) ∗ Nx true c (prt m c (ch true 0 c) (col true (pOf j))))
      ⊢ iprop(((Ow (j.val + 1) c ∗ Un2 (j.val + 1) c ∗ Pe2 j c ∗ Nx false c (prt m c (ch false 0 c) (col false (pOf j)))
            ∗ Nx true c (prt m c (ch true 0 c) (col true (pOf j)))) -∗ W) -∗ W')) :
    Ctx m K ⊢ iprop(Ow n c -∗ Un2 n c -∗ Nx false c (prt m c (xj r c) b) -∗ Nx true c (prt m c (xj r' c) b')
      -∗ ((Ow n' c ∗ Un2 n' c ∗ Pe2 j c ∗ Nx false c (prt m c (xj r c) b) ∗ Nx true c (prt m c (xj r' c) b')) -∗ W) -∗ W') := by
  rw [hr, hr', hb, hb', hn', hn] at h
  exact cur5 h

theorem at_add {c : Dev nD} {i j : Fin 24} (l l' n n' r r' : ℕ) (b b' : Fin 8) {W W' : sProp 𝕄}
    (hl : i.val = l) (hl' : i.val + 1 = l') (hn : j.val = n) (hn' : j.val + 1 = n') (hr : ch false (stOf j) c = xj r c) (hr' : ch true (stOf j) c = xj r' c)
    (hb : col false (pOf j) = b) (hb' : col true (pOf j) = b')
    (h : iprop(Ctx m K ∗ Ow j.val c ∗ Un2 j.val c ∗ Pe2 i c ∗ Cl2 i.val c ∗ Nx false c (prt m c (ch false (stOf j) c) (col false (pOf j)))
        ∗ Nx true c (prt m c (ch true (stOf j) c) (col true (pOf j))))
      ⊢ iprop(((Ow (j.val + 1) c ∗ Un2 (j.val + 1) c ∗ Pe2 j c ∗ Cl2 (i.val + 1) c ∗ Nx false c (prt m c (ch false (stOf j) c) (col false (pOf j)))
            ∗ Nx true c (prt m c (ch true (stOf j) c) (col true (pOf j)))) -∗ W) -∗ W')) :
    Ctx m K ⊢ iprop(Ow n c -∗ Un2 n c -∗ Pe2 i c -∗ Cl2 l c -∗ Nx false c (prt m c (xj r c) b) -∗ Nx true c (prt m c (xj r' c) b')
      -∗ ((Ow n' c ∗ Un2 n' c ∗ Pe2 j c ∗ Cl2 l' c ∗ Nx false c (prt m c (xj r c) b) ∗ Nx true c (prt m c (xj r' c) b')) -∗ W) -∗ W') := by
  rw [hr, hr', hb, hb', hn', hn, hl', hl] at h
  exact cur7 h

theorem at_turn {c : Dev nD} {i j : Fin 24} (l l' n n' r r' : ℕ) (b b' : Fin 8) {t t' u u' : Vec F S1024x1024 .f32} {W W' : sProp 𝕄}
    {a a' e e' : Vec F S1024x1024 .f32}
    (hl : i.val = l) (hl' : i.val + 1 = l') (hn : j.val = n) (hn' : j.val + 1 = n') (hr : ch false 0 c = xj r c) (hr' : ch true 0 c = xj r' c)
    (hb : col false (pOf j) = b) (hb' : col true (pOf j) = b') (ht : a = t) (ht' : a' = t') (hu : e = u) (hu' : e' = u')
    (h : iprop(Ctx m K ∗ Ow j.val c ∗ Un2 j.val c ∗ Pe2 i c ∗ St false c a ∗ St true c a' ∗ Cl2 i.val c ∗ Nx false c (prt m c (ch false 0 c) (col false (pOf j)))
        ∗ Nx true c (prt m c (ch true 0 c) (col true (pOf j))))
      ⊢ iprop(((Ow (j.val + 1) c ∗ Un2 (j.val + 1) c ∗ Pe2 j c ∗ St false c e ∗ St true c e' ∗ Cl2 (i.val + 1) c ∗ Nx false c (prt m c (ch false 0 c) (col false (pOf j)))
            ∗ Nx true c (prt m c (ch true 0 c) (col true (pOf j)))) -∗ W) -∗ W')) :
    Ctx m K ⊢ iprop(Ow n c -∗ Un2 n c -∗ Pe2 i c -∗ St false c t -∗ St true c t' -∗ Cl2 l c -∗ Nx false c (prt m c (xj r c) b) -∗ Nx true c (prt m c (xj r' c) b')
      -∗ ((Ow n' c ∗ Un2 n' c ∗ Pe2 j c ∗ St false c u ∗ St true c u' ∗ Cl2 l' c ∗ Nx false c (prt m c (xj r c) b) ∗ Nx true c (prt m c (xj r' c) b')) -∗ W) -∗ W') := by
  rw [hr, hr', hb, hb', hn', hn, hl', hl, ht, ht', hu, hu'] at h
  exact cur9 h

theorem at_last {c : Dev nD} {i : Fin 24} (l l' : ℕ) {t t' u u' : Vec F S1024x1024 .f32} {W W' : sProp 𝕄}
    {a a' e e' : Vec F S1024x1024 .f32}
    (hl : i.val = l) (hl' : i.val + 1 = l') (ht : a = t) (ht' : a' = t') (hu : e = u) (hu' : e' = u')
    (h : iprop(Ctx m K ∗ Ow 24 c ∗ Pe2 i c ∗ St false c a ∗ St true c a' ∗ Cl2 i.val c)
      ⊢ iprop(((Ow 24 c ∗ St false c e ∗ St true c e' ∗ Cl2 (i.val + 1) c) -∗ W) -∗ W')) :
    Ctx m K ⊢ iprop(Ow 24 c -∗ Pe2 i c -∗ St false c t -∗ St true c t' -∗ Cl2 l c -∗ ((Ow 24 c ∗ St false c u ∗ St true c u' ∗ Cl2 l' c) -∗ W) -∗ W') := by
  rw [hl', hl, ht, ht', hu, hu'] at h
  exact cur6 h
end At

end Cert.KernelProof

end
-- ==== Proof.Segs.lean ====
/-
The body cut into six stretches, each ending where no group of operations is cut.
-/
module

public import proofs.«01_k».proof.Proof.Curry

@[expose] public section

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The first products and the first sends. -/
def stretch1 (c : Dev nD) (v2 v4 v7 : BitVec 32) (k : Prog (TpuEff nD τ sig (Elt F) Λ₀ .tc) PUnit) : Prog (TpuEff nD τ sig (Elt F) Λ₀ .tc) PUnit := do
  let v48 ← onBufs (k0_part2 (F := F)) c v2
  let ⟨v78, v79⟩ ← onBufs (k0_part3 (F := F)) c v2 v48
  onBufs (k0_part4 (F := F)) c v4 v7 v78 v79
  onBufs (k0_part5 (F := F)) c v4 v7
  let ⟨v153, c0_i32_161⟩ ← onBufs (k0_part6 (F := F)) c v2
  onBufs (k0_part7 (F := F)) c v2 v153 c0_i32_161
  k

/-- The rest of pass 0. -/
def stretch2 (c : Dev nD) (v2 v4 v7 : BitVec 32) (k : Prog (TpuEff nD τ sig (Elt F) Λ₀ .tc) PUnit) : Prog (TpuEff nD τ sig (Elt F) Λ₀ .tc) PUnit := do
  onBufs (k0_part8 (F := F)) v4
  onBufs (k0_part9 (F := F)) v4 v7
  onBufs (k0_part10 (F := F)) c v7
  onBufs (k0_part11 (F := F)) v4 v7
  onBufs (k0_part12 (F := F)) c v4
  let v316 ← onBufs (k0_part13 (F := F)) c v2 v7
  onBufs (k0_part14 (F := F)) c v2 v316
  onBufs (k0_part15 (F := F)) v4
  onBufs (k0_part16 (F := F)) v7
  onBufs (k0_part17 (F := F)) c v4 v7
  onBufs (k0_part18 (F := F)) v4 v7
  onBufs (k0_part19 (F := F)) v4
  let v481 ← onBufs (k0_part20 (F := F)) c v2 v7
  onBufs (k0_part21 (F := F)) c v2 v481
  k

/-- Pass 1. -/
def stretch3 (c : Dev nD) (v2 v4 v7 : BitVec 32) (v15 : F .f32) (k : Prog (TpuEff nD τ sig (Elt F) Λ₀ .tc) PUnit) : Prog (TpuEff nD τ sig (Elt F) Λ₀ .tc) PUnit := do
  onBufs (k0_part22 (F := F)) v4
  let v559 ← onBufs (k0_part23 (F := F)) v7 v15
  onBufs (k0_part24 (F := F)) c v4 v7 v559
  onBufs (k0_part25 (F := F)) c v4
  let v626 ← onBufs (k0_part26 (F := F)) v7 v15
  onBufs (k0_part27 (F := F)) c v4 v15 v626
  let c2_i32_883 ← onBufs (k0_part28 (F := F)) c v7
  onBufs (k0_part29 (F := F)) c v2 c2_i32_883
  onBufs (k0_part30 (F := F)) v4
  let ⟨v745, c0_i32_986⟩ ← onBufs (k0_part31 (F := F)) v4 v7
  onBufs (k0_part32 (F := F)) c v7 v745 c0_i32_986
  onBufs (k0_part33 (F := F)) v4 v7
  onBufs (k0_part34 (F := F)) v4
  let v839 ← onBufs (k0_part35 (F := F)) c v2 v7
  onBufs (k0_part36 (F := F)) c v2 v839
  onBufs (k0_part37 (F := F)) v4 v7
  onBufs (k0_part38 (F := F)) v4
  onBufs (k0_part39 (F := F)) c v4 v7
  let ⟨v950, v951⟩ ← onBufs (k0_part40 (F := F)) v7
  let v974 ← onBufs (k0_part41 (F := F)) c v4 v7 v950 v951
  let ⟨v1001, v1002⟩ ← onBufs (k0_part42 (F := F)) c v2 v974
  onBufs (k0_part43 (F := F)) c v2 v1001 v1002
  k

/-- Pass 2. -/
def stretch4 (c : Dev nD) (v2 v4 v7 : BitVec 32) (v15 : F .f32) (k : Prog (TpuEff nD τ sig (Elt F) Λ₀ .tc) PUnit) : Prog (TpuEff nD τ sig (Elt F) Λ₀ .tc) PUnit := do
  onBufs (k0_part44 (F := F)) v4
  onBufs (k0_part45 (F := F)) v7 v15
  onBufs (k0_part46 (F := F)) c v4 v7
  onBufs (k0_part47 (F := F)) c v4
  let ⟨v1146, v1147⟩ ← onBufs (k0_part48 (F := F)) v7 v15
  onBufs (k0_part49 (F := F)) c v4 v15 v1146 v1147
  let ⟨v1197, c0_i32_1610⟩ ← onBufs (k0_part50 (F := F)) c v2 v7
  onBufs (k0_part51 (F := F)) c v2 v1197 c0_i32_1610
  onBufs (k0_part52 (F := F)) v4
  onBufs (k0_part53 (F := F)) v4 v7
  onBufs (k0_part54 (F := F)) c v7
  onBufs (k0_part55 (F := F)) v4 v7
  onBufs (k0_part56 (F := F)) c v4
  let v1359 ← onBufs (k0_part57 (F := F)) c v2 v7
  onBufs (k0_part58 (F := F)) c v2 v1359
  onBufs (k0_part59 (F := F)) v4 v7
  onBufs (k0_part60 (F := F)) c v4
  onBufs (k0_part61 (F := F)) c v4 v7
  let v1473 ← onBufs (k0_part62 (F := F)) v7
  onBufs (k0_part63 (F := F)) c v4 v7 v1473
  let ⟨v1521, v1523, cst_2081⟩ ← onBufs (k0_part64 (F := F)) c v2
  onBufs (k0_part65 (F := F)) c v2 v1521 v1523 cst_2081
  k

/-- Pass 3, and the copies out of it. -/
def stretch5 (c : Dev nD) (v2 v4 v7 : BitVec 32) (v15 : F .f32) : Prog (TpuEff nD τ sig (Elt F) Λ₀ .tc) PUnit := do
  onBufs (k0_part66 (F := F)) v4
  let v1600 ← onBufs (k0_part67 (F := F)) v7 v15
  onBufs (k0_part68 (F := F)) c v4 v7 v1600
  onBufs (k0_part69 (F := F)) c v4
  let ⟨v1666, v1669⟩ ← onBufs (k0_part70 (F := F)) v7 v15
  onBufs (k0_part71 (F := F)) c v4 v15 v1666 v1669
  let v1722 ← onBufs (k0_part72 (F := F)) c v2 v7
  onBufs (k0_part73 (F := F)) c v2 v4 v1722
  let ⟨v1764, v1765⟩ ← onBufs (k0_part74 (F := F)) v7
  let v1788 ← onBufs (k0_part75 (F := F)) c v4 v7 v1764 v1765
  onBufs (k0_part76 (F := F)) c v4 v1788
  let v1833 ← onBufs (k0_part77 (F := F)) v7
  onBufs (k0_part78 (F := F)) c v4 v7 v1833
  onBufs (k0_part79 (F := F)) c v2
  onBufs (k0_part80 (F := F)) v4
  onBufs (k0_part81 (F := F)) v7
  onBufs (k0_part82 (F := F)) c v4 v7
  onBufs (k0_part83 (F := F)) v4 v7
  onBufs (k0_part84 (F := F)) v4
  let v2021 ← onBufs (k0_part85 (F := F)) c v2 v7
  onBufs (k0_part86 (F := F)) c v2 v4 v2021
  let ⟨v2062, v2065⟩ ← onBufs (k0_part87 (F := F)) v7
  onBufs (k0_part88 (F := F)) v4 v15 v2062 v2065
  let ⟨v2110, v2111⟩ ← onBufs (k0_part89 (F := F)) v7
  onBufs (k0_part90 (F := F)) v15 v2110 v2111
  Prog.lift (.waitDma2 (((cc0_scratch16.slice (Rect.unit (s := S4x2) ![3, 1] S1x1.size inb_S4x2_S1x1_3_1) : DmaSems sig S1x1).squeeze S_ squeezes_S1x1_S_).sem) (Memref.whole cc0_scratch10)
    ((Memref.whole main_v1).slice (Rect.unit (s := S1024x8192) ![0, 7168] S1024x1024.size inb_S1024x8192_S1024x1024_0_7168) (fun _ => rfl)) (Memref.isWhole_whole _).wordExact (View.wordExact_bits rfl))
  pure ⟨⟩

set_option pp.maxSteps 60 in
set_option pp.deepTerms false in
/-- The body is its first part followed by the five stretches. -/
theorem body_eq : onBufs (cc0_body (F := F)) = (do
    let ⟨c, v2, v4, v7, v15⟩ ← onBufs (k0_part1 (F := F))
    stretch1 c v2 v4 v7 (stretch2 c v2 v4 v7 (stretch3 c v2 v4 v7 v15 (stretch4 c v2 v4 v7 v15 (stretch5 c v2 v4 v7 v15))))) := by
  simp only [onBufs, cc0_body_eq_skeleton]
  unfold cc0_body_skel
  simp only [k0_part91_eq_skeleton]
  unfold k0_part91_skel stretch1 stretch2 stretch3 stretch4 stretch5
  simp only [onBufs, Prog.bind_assoc, Prog.pure_eq_ret, Prog.bind_ret]
  rfl

end Cert.KernelProof

end
-- ==== Proof.Parts.lean ====
/-
A buffer held whole is held part by part: the blocks of `x`, the slots of the
weights, of the send and receive buffers, and the blocks of the result.
-/
module

public import proofs.«01_k».proof.Proof.Blocks
public import Idealize.ShloMosaic.Lib.Ring

@[expose] public section

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

section Generic
variable {B : Type} [Fintype B] [DecidableEq B] (c : Dev nD) (b : Ref sig .tc) (R : B → Rect b.ty.shape)

omit [Fintype B] [DecidableEq B] in
theorem part_own (t : B) (f : Buf (Elt F) ((c : Thread nD τ).loc b)) :
    (((c : Thread nD τ).loc b) ↦[(R t).set]{fullShare} f : sProp 𝕄) ⊢ Own c (Memref.whole b) (R t) (((Memref.whole b).access (R t)).read (Elt F) f) := by
  unfold Own
  iintro H
  iexists f; isplitr
  · ipureintro; rfl
  rw [show ((Memref.whole b).access (R t)).set = (R t).set from View.set_slice_whole b (R t)]
  iexact H

/-- The buffer at contents `f` is each of its parts, at what it reads of `f`. -/
theorem own_parts (hd : ∀ t t', t ≠ t' → Disjoint (R t).set (R t').set) (hc : Finset.univ.biUnion (fun t => (R t).set) = Finset.univ)
    (f : Buf (Elt F) ((c : Thread nD τ).loc b)) :
    (((c : Thread nD τ).loc b) ↦{fullShare} f : sProp 𝕄)
      ⊢ bigSep Finset.univ fun t => Own c (Memref.whole b) (R t) (((Memref.whole b).access (R t)).read (Elt F) f) := by
  have h : (((c : Thread nD τ).loc b) ↦{fullShare} f : sProp 𝕄) = bigSep Finset.univ fun t => ((c : Thread nD τ).loc b) ↦[(R t).set]{fullShare} f := by
    exact Idealize.ShloMosaic.Ring.pointsTo_blocks (ℓ := (c : Thread nD τ).loc b) (fun t => (R t).set) hd hc f
  rw [h]
  exact bigSep_mono fun t _ => part_own c b R t f

/-- The parts, each at contents of its own, are the buffer at contents that read so. -/
theorem parts_own (hd : ∀ t t', t ≠ t' → Disjoint (R t).set (R t').set) (hc : Finset.univ.biUnion (fun t => (R t).set) = Finset.univ)
    (v : (t : B) → (R t).shape.Idx → Elt F b.ty.elt) :
    (bigSep Finset.univ fun t => Own (F := F) c (Memref.whole b) (R t) (v t))
      ⊢ iprop(∃ g : Buf (Elt F) ((c : Thread nD τ).loc b), ⌜∀ t, ((Memref.whole b).access (R t)).read (Elt F) g = v t⌝ ∗ (((c : Thread nD τ).loc b) ↦{fullShare} g)) := by
  have f₀ : Buf (Elt F) ((c : Thread nD τ).loc b) := fun _ => Classical.choice (Elt.nonempty F _)
  have : Nonempty (Buf (Elt F) ((c : Thread nD τ).loc b)) := ⟨f₀⟩
  have h1 : (bigSep Finset.univ fun t => Own (F := F) c (Memref.whole b) (R t) (v t))
      ⊢ bigSep Finset.univ fun t => iprop(∃ f : Buf (Elt F) ((c : Thread nD τ).loc b),
          ⌜((Memref.whole b).access (R t)).read (Elt F) f = v t⌝ ∗ (((c : Thread nD τ).loc b) ↦[(R t).set]{fullShare} f)) := by
    refine bigSep_mono fun t _ => ?_
    unfold Own
    rw [show ((Memref.whole b).access (R t)).set = (R t).set from View.set_slice_whole b (R t)]
    exact Entails.refl _
  refine h1.trans ((Idealize.SL.BI.bigSep_exists_pi Finset.univ _).trans ?_)
  iintro ⟨%fs, H⟩
  ihave H := (bigSep_pure_sep Finset.univ _ _) $$ H
  icases H with ⟨%hv, H⟩
  ihave H := (pointsTo_biUnion_join Finset.univ (fun t => (R t).set) fs f₀ (fun t _ t' _ h => hd t t' h)) $$ H
  icases H with ⟨%g, %hg, H⟩
  iexists g; isplitr
  · ipureintro
    intro t
    rw [← hv t (Finset.mem_univ t)]
    refine View.read_congr fun i hi => hg t (Finset.mem_univ t) i ?_
    rwa [show ((Memref.whole b).access (R t)).set = (R t).set from View.set_slice_whole b (R t)] at hi
  rw [hc]
  iexact H

theorem any_parts (hd : ∀ t t', t ≠ t' → Disjoint (R t).set (R t').set) (hc : Finset.univ.biUnion (fun t => (R t).set) = Finset.univ) :
    iprop(∃ f : Buf (Elt F) ((c : Thread nD τ).loc b), ((c : Thread nD τ).loc b) ↦{fullShare} f)
      ⊢ (bigSep Finset.univ fun t => Any c (Memref.whole b) (R t) : sProp 𝕄) := by
  have h (f : Buf (Elt F) ((c : Thread nD τ).loc b)) : (((c : Thread nD τ).loc b) ↦{fullShare} f : sProp 𝕄) ⊢ bigSep Finset.univ fun t => Any c (Memref.whole b) (R t) :=
    (own_parts c b R hd hc f).trans (bigSep_mono fun t _ => Own_any c (Memref.whole b) (R t) _)
  iintro ⟨%f, H⟩
  iapply (h f); iexact H
theorem any_own (M : Memref sig .tc b.space b.ty.shape b.ty.elt) (Q : Rect b.ty.shape) :
    Any (F := F) c M Q ⊢ iprop(∃ v, Own c M Q v) := by
  unfold Any Own
  iintro ⟨%f, H⟩
  iexists ((M.access Q).read (Elt F) f); iexists f
  isplitr
  · ipureintro; rfl
  iexact H
theorem parts_any (hd : ∀ t t', t ≠ t' → Disjoint (R t).set (R t').set) (hc : Finset.univ.biUnion (fun t => (R t).set) = Finset.univ) :
    (bigSep Finset.univ fun t => Any c (Memref.whole b) (R t) : sProp 𝕄)
      ⊢ iprop(∃ f : Buf (Elt F) ((c : Thread nD τ).loc b), ((c : Thread nD τ).loc b) ↦{fullShare} f) := by
  have : ∀ t, Nonempty ((R t).shape.Idx → Elt F b.ty.elt) := fun t => ⟨fun _ => Classical.choice (Elt.nonempty F _)⟩
  refine (bigSep_mono (fun t _ => any_own c b (Memref.whole b) (R t))).trans ((Idealize.SL.BI.bigSep_exists_pi Finset.univ _).trans ?_)
  iintro ⟨%v, H⟩
  ihave H := (parts_own c b R hd hc v) $$ H
  icases H with ⟨%g, -, H⟩
  iexists g; iexact H
end Generic

/-! ## The parts are apart and cover -/

theorem sR_apart (t t' : Fin 2) (h : t ≠ t') : Disjoint (sR t).set (sR t').set :=
  Idealize.ShloMosaic.Ring.lead_disjoint (s := S2x512x1024) 0 1 (fun t => ![t.val, 0, 0]) S1x512x1024.size sR_inb (fun t => by show t.val = 1 * t.val; omega) rfl t t' h
theorem sR_cover : Finset.univ.biUnion (fun t => (sR t).set) = Finset.univ :=
  Idealize.ShloMosaic.Ring.lead_cover (s := S2x512x1024) 0 1 (fun t => ![t.val, 0, 0]) S1x512x1024.size sR_inb (fun t => by show t.val = 1 * t.val; omega)
    (fun t a ha => by fin_cases a <;> first | rfl | exact absurd rfl ha) rfl (fun a ha => by fin_cases a <;> first | rfl | exact absurd rfl ha) rfl
theorem rR_apart (t t' : Fin 4) (h : t ≠ t') : Disjoint (rR t).set (rR t').set :=
  Idealize.ShloMosaic.Ring.lead_disjoint (s := S4x512x1024) 0 1 (fun t => ![t.val, 0, 0]) S1x512x1024.size rR_inb (fun t => by show t.val = 1 * t.val; omega) rfl t t' h
theorem rR_cover : Finset.univ.biUnion (fun t => (rR t).set) = Finset.univ :=
  Idealize.ShloMosaic.Ring.lead_cover (s := S4x512x1024) 0 1 (fun t => ![t.val, 0, 0]) S1x512x1024.size rR_inb (fun t => by show t.val = 1 * t.val; omega)
    (fun t a ha => by fin_cases a <;> first | rfl | exact absurd rfl ha) rfl (fun a ha => by fin_cases a <;> first | rfl | exact absurd rfl ha) rfl
theorem xR_apart (t t' : Fin 4) (h : t ≠ t') : Disjoint (xR t).set (xR t').set :=
  Idealize.ShloMosaic.Ring.lead_disjoint (s := S4096x1024) 0 1024 (fun t => ![1024 * t.val, 0]) S1024x1024.size xR_inb (fun _ => rfl) rfl t t' h
theorem xR_cover : Finset.univ.biUnion (fun t => (xR t).set) = Finset.univ :=
  Idealize.ShloMosaic.Ring.lead_cover (s := S4096x1024) 0 1024 (fun t => ![1024 * t.val, 0]) S1024x1024.size xR_inb (fun _ => rfl)
    (fun t a ha => by fin_cases a <;> first | rfl | exact absurd rfl ha) rfl (fun a ha => by fin_cases a <;> first | rfl | exact absurd rfl ha) rfl
theorem oR_apart (t t' : Fin 8) (h : t ≠ t') : Disjoint (oR t).set (oR t').set :=
  Idealize.ShloMosaic.Ring.lead_disjoint (s := S1024x8192) 1 1024 (fun t => ![0, 1024 * t.val]) S1024x1024.size oR_inb (fun _ => rfl) rfl t t' h
theorem oR_cover : Finset.univ.biUnion (fun t => (oR t).set) = Finset.univ :=
  Idealize.ShloMosaic.Ring.lead_cover (s := S1024x8192) 1 1024 (fun t => ![0, 1024 * t.val]) S1024x1024.size oR_inb (fun _ => rfl)
    (fun t a ha => by fin_cases a <;> first | rfl | exact absurd rfl ha) rfl (fun a ha => by fin_cases a <;> first | rfl | exact absurd rfl ha) rfl

/-- The weight slot of a pair of numbers. -/
abbrev wR2 (t : Fin 2 × Fin 2) : Rect S2x2x1024x1024 := wR t.1 t.2
theorem wR_apart (t t' : Fin 2 × Fin 2) (h : t ≠ t') : Disjoint (wR2 t).set (wR2 t').set := by
  rw [Finset.disjoint_left]
  intro i hi hi'
  have h1 := (Rect.mem_set_unit.mp hi) 0
  have h2 := (Rect.mem_set_unit.mp hi') 0
  have h3 := (Rect.mem_set_unit.mp hi) 1
  have h4 := (Rect.mem_set_unit.mp hi') 1
  change t.1.val ≤ (i 0).val ∧ (i 0).val < t.1.val + 1 at h1
  change t'.1.val ≤ (i 0).val ∧ (i 0).val < t'.1.val + 1 at h2
  change t.2.val ≤ (i 1).val ∧ (i 1).val < t.2.val + 1 at h3
  change t'.2.val ≤ (i 1).val ∧ (i 1).val < t'.2.val + 1 at h4
  exact h (Prod.ext (Fin.ext (by omega)) (Fin.ext (by omega)))
theorem wR_cover : Finset.univ.biUnion (fun t => (wR2 t).set) = Finset.univ := by
  ext i
  simp only [Finset.mem_biUnion, Finset.mem_univ, true_and, iff_true]
  refine ⟨(i 0, i 1), Rect.mem_set_unit.mpr fun a => ?_⟩
  fin_cases a
  · exact ⟨Nat.le_refl _, Nat.lt_succ_self _⟩
  · exact ⟨Nat.le_refl _, Nat.lt_succ_self _⟩
  · exact ⟨Nat.zero_le _, by have := (i 2).isLt; show (i 2).val < 0 + 1024; change (i 2).val < 1024 at this; omega⟩
  · exact ⟨Nat.zero_le _, by have := (i 3).isLt; show (i 3).val < 0 + 1024; change (i 3).val < 1024 at this; omega⟩

/-! ## The kernel's buffers -/

/-- A buffer of the kernel, whole at some contents. -/
def Held (b : Ref sig .tc) (c : Dev nD) : sProp 𝕄 := iprop(∃ f : Buf (Elt F) ((c : Thread nD τ).loc b), ((c : Thread nD τ).loc b) ↦{fullShare} f)

theorem four_x {Φ : Fin 4 → sProp 𝕄} (c : Dev nD) : bigSep Finset.univ Φ = iprop(Φ (xj 3 c) ∗ Φ (xj 1 c) ∗ Φ (xj 2 c) ∗ Φ (xj 0 c)) :=
  bigSep_univ_eq_bigSepL [xj 3 c, xj 1 c, xj 2 c, xj 0 c] (by revert c; decide) (by revert c; decide) Φ
theorem four {Φ : Fin 4 → sProp 𝕄} : bigSep Finset.univ Φ = iprop(Φ 0 ∗ Φ 1 ∗ Φ 2 ∗ Φ 3) :=
  bigSep_univ_eq_bigSepL [0, 1, 2, 3] (by decide) (by decide) Φ
theorem two {Φ : Fin 2 → sProp 𝕄} : bigSep Finset.univ Φ = iprop(Φ 0 ∗ Φ 1) :=
  bigSep_univ_eq_bigSepL [0, 1] (by decide) (by decide) Φ
theorem two2 {Φ : Fin 2 × Fin 2 → sProp 𝕄} : bigSep Finset.univ Φ = iprop(Φ (0, 0) ∗ Φ (0, 1) ∗ Φ (1, 0) ∗ Φ (1, 1)) :=
  bigSep_univ_eq_bigSepL [(0, 0), (0, 1), (1, 0), (1, 1)] (by decide) (by decide) Φ
theorem eight {Φ : Fin 8 → sProp 𝕄} : bigSep Finset.univ Φ = iprop(Φ 0 ∗ Φ 4 ∗ Φ 1 ∗ Φ 5 ∗ Φ 2 ∗ Φ 6 ∗ Φ 3 ∗ Φ 7) :=
  bigSep_univ_eq_bigSepL [0, 4, 1, 5, 2, 6, 3, 7] (by decide) (by decide) Φ

theorem x_split (c : Dev nD) : Held (F := F) cc0_scratch0 c ⊢ iprop(X0 c 3 ∗ X0 c 1 ∗ X0 c 2 ∗ X0 c 0) :=
  (any_parts c cc0_scratch0 xR xR_apart xR_cover).trans (Entails.of_eq (four_x c))
theorem x_join (c : Dev nD) : iprop(X0 (F := F) c 3 ∗ X0 c 1 ∗ X0 c 2 ∗ X0 c 0) ⊢ Held cc0_scratch0 c :=
  (Entails.of_eq (four_x (Φ := fun t => Any c xM (xR t)) c).symm).trans (parts_any c cc0_scratch0 xR xR_apart xR_cover)
theorem w_split (c : Dev nD) : Held (F := F) cc0_scratch1 c ⊢ iprop(W0 c 0 0 ∗ W0 c 0 1 ∗ W0 c 1 0 ∗ W0 c 1 1) :=
  (any_parts c cc0_scratch1 wR2 wR_apart wR_cover).trans (Entails.of_eq two2)
theorem w_join (c : Dev nD) : iprop(W0 (F := F) c 0 0 ∗ W0 c 0 1 ∗ W0 c 1 0 ∗ W0 c 1 1) ⊢ Held cc0_scratch1 c :=
  (Entails.of_eq (two2 (Φ := fun t => Any c wM (wR2 t))).symm).trans (parts_any c cc0_scratch1 wR2 wR_apart wR_cover)

/-- The send buffer and the receive buffer of a direction. -/
abbrev sB (d : Bool) : Ref sig .tc := match d with | false => cc0_scratch3 | true => cc0_scratch4
abbrev rB (d : Bool) : Ref sig .tc := match d with | false => cc0_scratch5 | true => cc0_scratch6
theorem s_split (d : Bool) (c : Dev nD) : Held (F := F) (sB d) c ⊢ iprop(Any c (sM d) (sR 0) ∗ Any c (sM d) (sR 1)) := by
  cases d
  · exact (any_parts c cc0_scratch3 sR sR_apart sR_cover).trans (Entails.of_eq two)
  · exact (any_parts c cc0_scratch4 sR sR_apart sR_cover).trans (Entails.of_eq two)
theorem s_join (d : Bool) (c : Dev nD) : iprop(Any c (sM d) (sR 0) ∗ Any c (sM d) (sR 1)) ⊢ Held (F := F) (sB d) c := by
  cases d
  · exact (Entails.of_eq (two (Φ := fun t => Any c (sM false) (sR t))).symm).trans (parts_any c cc0_scratch3 sR sR_apart sR_cover)
  · exact (Entails.of_eq (two (Φ := fun t => Any c (sM true) (sR t))).symm).trans (parts_any c cc0_scratch4 sR sR_apart sR_cover)
theorem r_split (d : Bool) (c : Dev nD) : Held (F := F) (rB d) c ⊢ iprop(Any c (rM d) (rR 0) ∗ Any c (rM d) (rR 1) ∗ Any c (rM d) (rR 2) ∗ Any c (rM d) (rR 3)) := by
  cases d
  · exact (any_parts c cc0_scratch5 rR rR_apart rR_cover).trans (Entails.of_eq four)
  · exact (any_parts c cc0_scratch6 rR rR_apart rR_cover).trans (Entails.of_eq four)
theorem r_join (d : Bool) (c : Dev nD) : iprop(Any c (rM d) (rR 0) ∗ Any c (rM d) (rR 1) ∗ Any c (rM d) (rR 2) ∗ Any c (rM d) (rR 3)) ⊢ Held (F := F) (rB d) c := by
  cases d
  · exact (Entails.of_eq (four (Φ := fun t => Any c (rM false) (rR t))).symm).trans (parts_any c cc0_scratch5 rR rR_apart rR_cover)
  · exact (Entails.of_eq (four (Φ := fun t => Any c (rM true) (rR t))).symm).trans (parts_any c cc0_scratch6 rR rR_apart rR_cover)

theorem o_split (c : Dev nD) : Held (F := F) main_v1 c ⊢ bigSep Finset.univ fun b => Any c oM (oR b) :=
  any_parts c main_v1 oR oR_apart oR_cover
theorem o_join (c : Dev nD) (v : Fin 8 → Vec F S1024x1024 .f32) :
    (bigSep Finset.univ fun b => Own (F := F) c oM (oR b) (v b))
      ⊢ iprop(∃ g : Buf (Elt F) ((c : Thread nD τ).loc main_v1), ⌜∀ b, (oM.access (oR b)).read (Elt F) g = v b⌝ ∗ (((c : Thread nD τ).loc main_v1) ↦{fullShare} g)) :=
  parts_own c main_v1 oR oR_apart oR_cover v

end Cert.KernelProof

end
-- ==== Proof.Start.lean ====
/-
The head of the body: the two signals, the barrier, the scales, and the first
block of the weights.
-/
module

public import proofs.«01_k».proof.Proof.Segs
public import proofs.«01_k».proof.Proof.Parts

@[expose] public section

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The transfers, before the first and after the last -/

/-- Of a transfer, before the buffers are dealt. -/
def UnY (d : Bool) (c : Dev nD) (i : Fin 24) : sProp 𝕄 :=
  iprop((dutyTok ER (xC d false i c) 0 false ∗ dutyTok ER (xC d true i (dstOf d c)) 0 false)
    ∗ (atPos ER (xC d false i c) 0 ∅ 0 ∗ atPos ER (xC d true i c) 0 ∅ 0 ∗ cred (tallyAt (xC d true i c) () N)))
def Toks (d : Bool) (c : Dev nD) : sProp 𝕄 := bigSep Finset.univ fun i => UnY d c i
/-- The semaphores of a direction at zero. -/
def Sems (d : Bool) (c : Dev nD) : sProp 𝕄 := bigSep Finset.univ fun i => iprop(semVal (xC d false i c) 0 ∗ semVal (xC d true i c) 0)

theorem first_slots (Φ : Fin 4 → sProp 𝕄) :
    (bigSep Finset.univ fun i : Fin 24 => if i.val < 4 then Φ (slot i) else iprop(emp)) = iprop(Φ 0 ∗ Φ 1 ∗ Φ 2 ∗ Φ 3) := by
  refine (BI.bigSep_filter Finset.univ (fun i : Fin 24 => i.val < 4) (fun i => Φ (slot i))).symm.trans ?_
  rw [bigSep_eq_bigSepL_of_eq [(0 : Fin 24), 1, 2, 3] (by decide) (by decide)]
  rfl
theorem first_halves (Φ : Fin 2 → sProp 𝕄) :
    (bigSep Finset.univ fun i : Fin 24 => if i.val < 2 then Φ (hOf i) else iprop(emp)) = iprop(Φ 0 ∗ Φ 1) := by
  refine (BI.bigSep_filter Finset.univ (fun i : Fin 24 => i.val < 2) (fun i => Φ (hOf i))).symm.trans ?_
  rw [bigSep_eq_bigSepL_of_eq [(0 : Fin 24), 1] (by decide) (by decide)]
  rfl
theorem last_slots (Φ : Fin 4 → sProp 𝕄) :
    (bigSep Finset.univ fun i : Fin 24 => if 20 ≤ i.val then Φ (slot i) else iprop(emp)) = iprop(Φ 0 ∗ Φ 1 ∗ Φ 2 ∗ Φ 3) := by
  refine (BI.bigSep_filter Finset.univ (fun i : Fin 24 => 20 ≤ i.val) (fun i => Φ (slot i))).symm.trans ?_
  rw [bigSep_eq_bigSepL_of_eq [(20 : Fin 24), 21, 22, 23] (by decide) (by decide)]
  rfl
theorem last_halves (Φ : Fin 2 → sProp 𝕄) :
    (bigSep Finset.univ fun i : Fin 24 => if 22 ≤ i.val then Φ (hOf i) else iprop(emp)) = iprop(Φ 0 ∗ Φ 1) := by
  refine (BI.bigSep_filter Finset.univ (fun i : Fin 24 => 22 ≤ i.val) (fun i => Φ (hOf i))).symm.trans ?_
  rw [bigSep_eq_bigSepL_of_eq [(22 : Fin 24), 23] (by decide) (by decide)]
  rfl

/-- The transfers of one direction before the first is sent. -/
theorem un_one (d : Bool) (c : Dev nD) :
    iprop(Toks d c ∗ barPay d c ∗ (Any c (sM d) (sR 0) ∗ Any c (sM d) (sR 1))) ⊢ (bigSep Finset.univ fun i => UnX (F := F) d c i) := by
  unfold UnX Toks UnY barPay
  simp only [BI.bigSep_sep']
  rw [first_slots (fun k => Any (F := F) (dstOf d c) (rM d) (rR k)), first_halves (fun h => Any (F := F) c (sM d) (sR h))]
  iintro ⟨⟨H1, H2⟩, H3, H4⟩
  isplitl [H1]; · iexact H1
  isplitl [H2]; · iexact H2
  isplitl [H3]; · iexact H3
  iexact H4
theorem un_zero (c : Dev nD) :
    iprop((Toks false c ∗ barPay false c ∗ (Any c (sM false) (sR 0) ∗ Any c (sM false) (sR 1)))
      ∗ (Toks true c ∗ barPay true c ∗ (Any c (sM true) (sR 0) ∗ Any c (sM true) (sR 1)))) ⊢ Un2 (F := F) 0 c := by
  unfold Un2
  rw [Finset.filter_true_of_mem (fun i _ => Nat.zero_le _), BI.bigSep_sep']
  exact BI.sep_mono (un_one false c) (un_one true c)
theorem cl_zero (c : Dev nD) : (iprop(emp) : sProp 𝕄) ⊢ Cl2 0 c := by
  unfold Cl2
  rw [Finset.filter_false_of_mem (fun i _ => Nat.not_lt_zero _), BI.bigSep_empty]
  exact Entails.refl _

/-- The transfers of one direction after the last has landed. -/
theorem cl_one (d : Bool) (c : Dev nD) : (bigSep Finset.univ fun i => ClX (F := F) d c i) ⊢ iprop(Sems d c ∗ Held (rB d) c ∗ Held (sB d) c) := by
  unfold ClX Sems
  simp only [BI.bigSep_sep']
  rw [last_slots (fun k => Any (F := F) c (rM d) (rR k)), last_halves (fun h => Any (F := F) c (sM d) (sR h))]
  iintro ⟨H1, H2, H3⟩
  isplitl [H1]; · iexact H1
  isplitl [H2]
  · iapply (r_join d c); iexact H2
  · iapply (s_join d c); iexact H3
theorem cl_done (c : Dev nD) : Cl2 (F := F) 24 c ⊢ iprop((Sems false c ∗ Held (rB false) c ∗ Held (sB false) c) ∗ (Sems true c ∗ Held (rB true) c ∗ Held (sB true) c)) := by
  unfold Cl2
  rw [Finset.filter_true_of_mem (fun i _ => i.isLt), BI.bigSep_sep']
  exact BI.sep_mono (cl_one false c) (cl_one true c)

/-! ## The head -/

variable (m : (ℓ : Loc nD τ sig) → Buf (Elt F) ℓ) (K : GSem nD τ sig → ℕ)

/-- The scale of the result: the product of the two scales as staged. -/
def sc (f0 f1 : Vec F S1 .f32) : F .f32 :=
  k0_pay1 (((Memref.whole cc0_stg0_0).access (Rect.unit (s := S1) ![0] S1.size inb_S1_S1_0)).read (Elt F) f0 (Shape.Idx.first (numel1_S1.symm ▸ Nat.one_pos)))
    (((Memref.whole cc0_stg1_0).access (Rect.unit (s := S1) ![0] S1.size inb_S1_S1_0)).read (Elt F) f1 (Shape.Idx.first (numel1_S1.symm ▸ Nat.one_pos)))

/-- The staged scales. -/
def Sg0 (c : Dev nD) (f : Vec F S1 .f32) : sProp 𝕄 := ((c : Thread nD τ).loc cc0_stg0_0) ↦{fullShare} f
def Sg1 (c : Dev nD) (f : Vec F S1 .f32) : sProp 𝕄 := ((c : Thread nD τ).loc cc0_stg1_0) ↦{fullShare} f

/-- What the barrier needs of a device. -/
def Bar0 (c : Dev nD) : sProp 𝕄 :=
  iprop(atPos ER (barC c) 0 ∅ 0 ∗ dutyTok ER (barC (prv c)) 0 false ∗ dutyTok ER (barC (nxt c)) 0 true ∗ cred (tallyAt (barC c) () 2))

theorem part1_wp {α : Type} (c : Dev nD) (f0 f1 : Vec F S1 .f32) (W) (k : (Σ' (d0 : Dev nD) (v2 : BitVec 32) (v4 : BitVec 32) (v7 : BitVec 32), F .f32) → Prog (TpuEff nD τ sig (Elt F) Λ₀ .tc) α)
    {Q : α → sProp 𝕄} :
    iprop(Ctx m K ∗ Bar0 c ∗ owes (c : Thread nD τ) (O₀ c) W ∗ Held (rB false) c ∗ Held (rB true) c ∗ Sg0 c f0 ∗ Sg1 c f1 ∗ HW m c ∗ Stg c ∗ W0 c 0 0
      ∗ (∀ v2 v4 v7, (Ow 0 c ∗ semVal (barC c) 0 ∗ barPay false c ∗ barPay true c ∗ Sg0 c f0 ∗ Sg1 c f1 ∗ HW m c ∗ Stg c ∗ WW m c 0 0 0) -∗ WP c (k ⟨c, v2, v4, v7, sc f0 f1⟩) Q))
      ⊢ WP c (onBufs (k0_part1 (F := F)) >>= k) Q := by
  simp only [onBufs, k0_part1_eq_skeleton]
  unfold k0_part1_skel
  simp only [semSignalWord, semWaitWord, Prog.lift, Prog.bind_op, Prog.bind_ret, Prog.pure_eq_ret, Prog.bind_assoc, wp_deviceId]
  unfold Bar0 sc
  iintro ⟨#HC, ⟨Hat, Ht1, Ht2, Hcr⟩, HO, R0, R1, S0, S1, HW, HG, w00, Hk⟩
  ihave R0 := (r_split false c) $$ R0
  ihave R1 := (r_split true c) $$ R1
  rw [isPrv (h := k0_dev1_lt c) (k0_dev1_eq c), isNxt (h := k0_dev2_lt c) (k0_dev2_eq c)]
  unfold O₀
  iapply (Rounds.wp_signal 𝒱₀ ER (Rd m) (c : Thread nD τ) none (dst := (prv c : Thread nD τ)) (κ := K (barC (prv c))) (d := false)
      (by rw [duties_bar]; exact Finset.mem_univ _) ((amount_bar m (prv c) false).trans (by decide)) () (O₁ c) rfl) $$ [HO Ht1 R0]
  · isplitr; · iapply (ctx_inv m K (bar_mem (prv c))); iexact HC
    isplitl [HO]; · iexact HO
    isplitl [Ht1]; · iexact Ht1
    isplitl [R0]
    · rw [payload_bar]; unfold barPay; rw [show dstOf false (prv c) = c from nxt_prv c]; iexact R0
    iapply (ctx_reached m K (bar_mem (prv c))); iexact HC
  iintro HO
  unfold O₁
  iapply (Rounds.wp_signal 𝒱₀ ER (Rd m) (c : Thread nD τ) none (dst := (nxt c : Thread nD τ)) (κ := K (barC (nxt c))) (d := true)
      (by rw [duties_bar]; exact Finset.mem_univ _) ((amount_bar m (nxt c) true).trans (by decide)) () (OO 0 c) rfl) $$ [HO Ht2 R1]
  · isplitr; · iapply (ctx_inv m K (bar_mem (nxt c))); iexact HC
    isplitl [HO]; · iexact HO
    isplitl [Ht2]; · iexact Ht2
    isplitl [R1]
    · rw [payload_bar]; unfold barPay; rw [show dstOf true (nxt c) = c from prv_nxt c]; iexact R1
    iapply (ctx_reached m K (bar_mem (nxt c))); iexact HC
  iintro HO
  iapply (Rounds.wp_wait_rest_token 𝒱₀ ER (Rd m) (c : Thread nD τ) none (κ := K (barC c))
      (wpE_semWait_eq 𝒱₀ (c : Thread nD τ) none Set.univ) (Set.mem_univ _) () (O := OO 0 c) (W := W) (R := 0) (m := 0) (T := ∅)
      (by rw [expect_bar]; decide)) $$ [Hcr HO Hat]
  · isplitr; · iapply (ctx_inv m K (bar_mem c)); iexact HC
    isplitl [Hcr]; · iexact Hcr
    isplitl [HO]; · iexact HO
    isplitr
    · iapply (mayWait c (.reg barS) 0 (by show 1 < 2 + 0; omega)); iapply (ctx_lev m K); iexact HC
    iexact Hat
  iintro ⟨HO, Hat, -, Hp⟩
  ihave Hp := (Entails.of_eq (rest_bar m c)) $$ Hp
  icases Hp with ⟨B0, B1⟩
  imod (Rounds.cell_close ER (Rd m) (Set.mem_univ (K (barC c))) (fun h => h) (R := 0 + 1) (duties_later m (barC c))) $$ [Hat] with Hz
  · isplitr; · iapply (ctx_inv m K (bar_mem c)); iexact HC
    iexact Hat
  unfold Sg0 Sg1
  simp only [smemLoad, smemLoadElt, Prog.bind_op, Prog.bind_ret]
  iapply (wp_load_rect 𝒱₀ (c : Thread nD τ) none Set.univ (m := (Memref.whole cc0_stg0_0)) (r := Rect.unit (s := S1) ![0] S1.size inb_S1_S1_0) (S := Finset.univ) (Finset.subset_univ _)) $$ S0; iintro S0
  iapply (wp_load_rect 𝒱₀ (c : Thread nD τ) none Set.univ (m := (Memref.whole cc0_stg1_0)) (r := Rect.unit (s := S1) ![0] S1.size inb_S1_S1_0) (S := Finset.univ) (Finset.subset_univ _)) $$ S1; iintro S1
  iapply (cur5 (wp_loadw m K c 0 0 0 0)) $$ HC HW HG [HO] w00
  · unfold Ow; iexists _; iexact HO
  iintro ⟨HW, HG, HO, w00⟩
  iapply Hk
  isplitl [HO]; · iexact HO
  isplitl [Hz]; · iexact Hz
  isplitl [B0]; · iexact B0
  isplitl [B1]; · iexact B1
  isplitl [S0]; · iexact S0
  isplitl [S1]; · iexact S1
  isplitl [HW]; · iexact HW
  isplitl [HG]; · iexact HG
  iexact w00

end Cert.KernelProof

end
-- ==== Proof.Body1.lean ====
/-
The five stretches of the body, group by group: what each needs, and what it leaves.
-/
module

public import proofs.«01_k».proof.Proof.Segs

@[expose] public section

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : GSem nD τ sig → ℕ)

set_option maxHeartbeats 4000000 in
/-- The first products, and the first sends. -/
theorem stretch1_wp (c : Dev nD) (v2 v4 v7 : BitVec 32) (k : Prog (TpuEff nD τ sig (Elt F) Λ₀ .tc) PUnit) {Q : PUnit → sProp 𝕄} :
    iprop(Ctx m K ∗ HX m c ∗ HW m c ∗ Stg c ∗ Ow 0 c ∗ Un2 0 c ∗ X0 c 3 ∗ X0 c 1 ∗ X0 c 2 ∗ WW m c 0 0 0 ∗ W0 c 0 1 ∗ W0 c 1 0 ∗ (∃ w, Nx false c w) ∗ (∃ w, Nx true c w)
      ∗ ((HX m c ∗ HW m c ∗ Stg c ∗ Ow 2 c ∗ Un2 2 c ∗ Pe2 0 c ∗ Pe2 1 c ∗ XX m c 3 ∗ XX m c 1 ∗ XX m c 2 ∗ WW m c 0 0 0 ∗ WW m c 0 1 4 ∗ WW m c 1 0 1 ∗ Nx false c (prt m c (xj 2 c) 0) ∗ Nx true c (prt m c (xj 2 c) 4)) -∗ WP c k Q))
      ⊢ WP c (stretch1 c v2 v4 v7 k) Q := by
  unfold stretch1
  simp only [onBufs, k0_part2_eq_skeleton, k0_part3_eq_skeleton, k0_part4_eq_skeleton, k0_part5_eq_skeleton, k0_part6_eq_skeleton, k0_part7_eq_skeleton]
  unfold k0_part2_skel k0_part3_skel k0_part4_skel k0_part5_skel k0_part6_skel k0_part7_skel
  simp only [Prog.lift, Prog.bind_op, Prog.bind_ret, Prog.pure_eq_ret, Prog.bind_assoc]
  iintro ⟨#HC, HX, HW, HG, HO, HU, x3, x1, x2, w00, w01, w10, ⟨%na₀, NA⟩, ⟨%nb₀, NB⟩, Hk⟩
  iapply (cur5 (wp_loadw m K c 0 0 1 4)) $$ HC HW HG HO w01
  iintro ⟨HW, HG, HO, w01⟩
  iapply (cur5 (wp_loadx m K c 0 3 (off1_3 c) (off2_3 c))) $$ HC HX HG HO x3
  iintro ⟨HX, HG, HO, x3⟩
  iapply (cur5 (wp_loadx m K c 0 1 (off1_1 c) (off2_1 c))) $$ HC HX HG HO x1
  iintro ⟨HX, HG, HO, x1⟩
  iapply (cur3 (wp_dot m false c 3 0 0 0 _ (off2_3 c))) $$ x3 w00 NA
  iintro ⟨x3, w00, NA⟩
  iapply (cur3 (wp_dot m true c 1 0 1 4 _ (off2_1 c))) $$ x1 w01 NB
  iintro ⟨x1, w01, NB⟩
  iapply (at_first m K 0 1 3 1 0 4 rfl rfl rfl rfl rfl rfl (half_first m K c 0 (by decide) (isNxt (k0_dev3_eq c)) (isPrv (k0_dev4_eq c)))) $$ HC HO HU NA NB
  iintro ⟨HO, HU, P0, NA, NB⟩
  iapply (at_first m K 1 2 3 1 0 4 rfl rfl rfl rfl rfl rfl (half_first m K c 1 (by decide) (isNxt (k0_dev5_eq c)) (isPrv (k0_dev6_eq c)))) $$ HC HO HU NA NB
  iintro ⟨HO, HU, P1, NA, NB⟩
  iapply (cur5 (wp_loadx m K c 2 2 (off1_2 c) (off2_2 c))) $$ HC HX HG HO x2
  iintro ⟨HX, HG, HO, x2⟩
  iapply (cur5 (wp_loadw m K c 2 1 0 1)) $$ HC HW HG HO w10
  iintro ⟨HW, HG, HO, w10⟩
  iapply (cur3 (wp_dot m false c 2 0 0 0 _ (off3_0 c))) $$ x2 w00 NA
  iintro ⟨x2, w00, NA⟩
  iapply (cur3 (wp_dot m true c 2 0 1 4 _ (off4_0 c))) $$ x2 w01 NB
  iintro ⟨x2, w01, NB⟩
  iapply Hk
  isplitl [HX]; · iexact HX
  isplitl [HW]; · iexact HW
  isplitl [HG]; · iexact HG
  isplitl [HO]; · iexact HO
  isplitl [HU]; · iexact HU
  isplitl [P0]; · iexact P0
  isplitl [P1]; · iexact P1
  isplitl [x3]; · iexact x3
  isplitl [x1]; · iexact x1
  isplitl [x2]; · iexact x2
  isplitl [w00]; · iexact w00
  isplitl [w01]; · iexact w01
  isplitl [w10]; · iexact w10
  isplitl [NA]; · iexact NA
  iexact NB

set_option maxHeartbeats 4000000 in
/-- The rest of pass 0. -/
theorem stretch2_wp (c : Dev nD) (v2 v4 v7 : BitVec 32) (k : Prog (TpuEff nD τ sig (Elt F) Λ₀ .tc) PUnit) {Q : PUnit → sProp 𝕄} :
    iprop(Ctx m K ∗ HX m c ∗ HW m c ∗ Stg c ∗ Ow 2 c ∗ Un2 2 c ∗ Pe2 0 c ∗ Pe2 1 c ∗ Cl2 0 c ∗ XX m c 3 ∗ XX m c 1 ∗ XX m c 2 ∗ X0 c 0 ∗ WW m c 0 0 0 ∗ WW m c 0 1 4 ∗ WW m c 1 0 1 ∗ W0 c 1 1 ∗ Nx false c (prt m c (xj 2 c) 0) ∗ Nx true c (prt m c (xj 2 c) 4) ∗ (∃ w, St false c w) ∗ (∃ w, St true c w)
      ∗ ((HX m c ∗ HW m c ∗ Stg c ∗ Ow 6 c ∗ Un2 6 c ∗ Pe2 4 c ∗ Pe2 5 c ∗ Cl2 4 c ∗ XX m c 3 ∗ XX m c 1 ∗ XX m c 2 ∗ XX m c 0 ∗ WW m c 0 0 0 ∗ WW m c 0 1 4 ∗ WW m c 1 0 1 ∗ WW m c 1 1 5 ∗ Nx false c (prt m c (xj 3 c) 1) ∗ Nx true c (prt m c (xj 1 c) 5) ∗ St false c (prtF m c (xj 0 c) 0) ∗ St true c (prtF m c (xj 0 c) 4)) -∗ WP c k Q))
      ⊢ WP c (stretch2 c v2 v4 v7 k) Q := by
  unfold stretch2
  simp only [onBufs, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold k0_part8_skel k0_part9_skel k0_part10_skel k0_part11_skel k0_part12_skel k0_part13_skel k0_part14_skel k0_part15_skel k0_part16_skel k0_part17_skel k0_part18_skel k0_part19_skel k0_part20_skel k0_part21_skel
  simp only [Prog.lift, Prog.bind_op, Prog.bind_ret, Prog.pure_eq_ret, Prog.bind_assoc]
  iintro ⟨#HC, HX, HW, HG, HO, HU, P0, P1, HL, x3, x1, x2, x0, w00, w01, w10, w11, NA, NB, ⟨%ta₀, TA⟩, ⟨%tb₀, TB⟩, Hk⟩
  iapply (at_add m K 0 1 2 3 2 2 0 4 rfl rfl rfl rfl rfl rfl rfl rfl (half_add m K c 0 2 rfl rfl (isNxt (k0_dev7_eq c)) (isPrv (k0_dev8_eq c)))) $$ HC HO HU P0 HL NA NB
  iintro ⟨HO, HU, P2, HL, NA, NB⟩
  iapply (at_add m K 1 2 3 4 2 2 0 4 rfl rfl rfl rfl rfl rfl rfl rfl (half_add m K c 1 3 rfl rfl (isNxt (k0_dev9_eq c)) (isPrv (k0_dev10_eq c)))) $$ HC HO HU P1 HL NA NB
  iintro ⟨HO, HU, P3, HL, NA, NB⟩
  iapply (cur5 (wp_loadx m K c 4 0 (off5_0 c) (off6_0 c))) $$ HC HX HG HO x0
  iintro ⟨HX, HG, HO, x0⟩
  iapply (cur5 (wp_loadw m K c 4 1 1 5)) $$ HC HW HG HO w11
  iintro ⟨HW, HG, HO, w11⟩
  iapply (cur3 (wp_dot m false c 1 0 0 0 _ (off3_1 c))) $$ x1 w00 NA
  iintro ⟨x1, w00, NA⟩
  iapply (cur3 (wp_dot m true c 3 0 1 4 _ (off4_1 c))) $$ x3 w01 NB
  iintro ⟨x3, w01, NB⟩
  iapply (at_add m K 2 3 4 5 1 3 0 4 rfl rfl rfl rfl rfl rfl rfl rfl (half_add m K c 2 4 rfl rfl (isNxt (k0_dev11_eq c)) (isPrv (k0_dev12_eq c)))) $$ HC HO HU P2 HL NA NB
  iintro ⟨HO, HU, P4, HL, NA, NB⟩
  iapply (at_add m K 3 4 5 6 1 3 0 4 rfl rfl rfl rfl rfl rfl rfl rfl (half_add m K c 3 5 rfl rfl (isNxt (k0_dev13_eq c)) (isPrv (k0_dev14_eq c)))) $$ HC HO HU P3 HL NA NB
  iintro ⟨HO, HU, P5, HL, NA, NB⟩
  iapply (cur3 (wp_dot_stage m false c 0 0 0 0 _ (off6_0 c))) $$ x0 w00 TA
  iintro ⟨x0, w00, TA⟩
  iapply (cur3 (wp_dot_stage m true c 0 0 1 4 _ (off6_0 c))) $$ x0 w01 TB
  iintro ⟨x0, w01, TB⟩
  iapply (cur3 (wp_dot m false c 3 1 0 1 _ (off2_3 c))) $$ x3 w10 NA
  iintro ⟨x3, w10, NA⟩
  iapply (cur3 (wp_dot m true c 1 1 1 5 _ (off2_1 c))) $$ x1 w11 NB
  iintro ⟨x1, w11, NB⟩
  iapply Hk
  isplitl [HX]; · iexact HX
  isplitl [HW]; · iexact HW
  isplitl [HG]; · iexact HG
  isplitl [HO]; · iexact HO
  isplitl [HU]; · iexact HU
  isplitl [P4]; · iexact P4
  isplitl [P5]; · iexact P5
  isplitl [HL]; · iexact HL
  isplitl [x3]; · iexact x3
  isplitl [x1]; · iexact x1
  isplitl [x2]; · iexact x2
  isplitl [x0]; · iexact x0
  isplitl [w00]; · iexact w00
  isplitl [w01]; · iexact w01
  isplitl [w10]; · iexact w10
  isplitl [w11]; · iexact w11
  isplitl [NA]; · iexact NA
  isplitl [NB]; · iexact NB
  isplitl [TA]; · iexact TA
  iexact TB

end Cert.KernelProof

end
-- ==== Proof.Body2.lean ====
/-
Passes 1 and 2 of the body, group by group.
-/
module

public import proofs.«01_k».proof.Proof.Segs

@[expose] public section

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : GSem nD τ sig → ℕ)

set_option maxHeartbeats 4000000 in
/-- Pass 1. -/
theorem stretch3_wp (c : Dev nD) (v2 v4 v7 : BitVec 32) (v15 : F .f32) (k : Prog (TpuEff nD τ sig (Elt F) Λ₀ .tc) PUnit) {Q : PUnit → sProp 𝕄} :
    iprop(Ctx m K ∗ HX m c ∗ HW m c ∗ Stg c ∗ Ow 6 c ∗ Un2 6 c ∗ Pe2 4 c ∗ Pe2 5 c ∗ Cl2 4 c ∗ XX m c 3 ∗ XX m c 1 ∗ XX m c 2 ∗ XX m c 0 ∗ WW m c 0 0 0 ∗ WW m c 0 1 4 ∗ WW m c 1 0 1 ∗ WW m c 1 1 5 ∗ Nx false c (prt m c (xj 3 c) 1) ∗ Nx true c (prt m c (xj 1 c) 5) ∗ St false c (prtF m c (xj 0 c) 0) ∗ St true c (prtF m c (xj 0 c) 4) ∗ Out0 c 0 ∗ Out0 c 4
      ∗ ((HX m c ∗ HW m c ∗ Stg c ∗ Ow 12 c ∗ Un2 12 c ∗ Pe2 10 c ∗ Pe2 11 c ∗ Cl2 10 c ∗ XX m c 3 ∗ XX m c 1 ∗ XX m c 2 ∗ XX m c 0 ∗ WW m c 1 0 1 ∗ WW m c 1 1 5 ∗ WW m c 0 0 2 ∗ WW m c 0 1 6 ∗ Nx false c (prt m c (xj 3 c) 2) ∗ Nx true c (prt m c (xj 1 c) 6) ∗ St false c (prtF m c (xj 0 c) 1) ∗ St true c (prtF m c (xj 0 c) 5) ∗ OutD c 0 (tAt m v15 false 0 c 2) ∗ OutD c 4 (tAt m v15 true 0 c 2)) -∗ WP c k Q))
      ⊢ WP c (stretch3 c v2 v4 v7 v15 k) Q := by
  unfold stretch3
  simp only [onBufs, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton]
  unfold k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel k0_part39_skel k0_part40_skel k0_part41_skel k0_part42_skel k0_part43_skel
  simp only [Prog.lift, Prog.bind_op, Prog.bind_ret, Prog.pure_eq_ret, Prog.bind_assoc]
  iintro ⟨#HC, HX, HW, HG, HO, HU, P4, P5, HL, x3, x1, x2, x0, w00, w01, w10, w11, NA, NB, TA, TB, o0, o4, Hk⟩
  iapply (at_turn m K 4 5 6 7 3 1 1 5 (t := prtF m c (xj 0 c) 0) (t' := prtF m c (xj 0 c) 4) (u := tAt m v15 false 0 c 1) (u' := tAt m v15 true 0 c 1) rfl rfl rfl rfl rfl rfl rfl rfl rfl rfl rfl rfl (half_turn m K c 4 6 rfl rfl rfl v15 (isNxt (k0_dev15_eq c)) (isPrv (k0_dev16_eq c)))) $$ HC HO HU P4 TA TB HL NA NB
  iintro ⟨HO, HU, P6, TA, TB, HL, NA, NB⟩
  iapply (at_turn m K 5 6 7 8 3 1 1 5 (t := tAt m v15 false 0 c 1) (t' := tAt m v15 true 0 c 1) (u := tAt m v15 false 0 c 2) (u' := tAt m v15 true 0 c 2) rfl rfl rfl rfl rfl rfl rfl rfl rfl rfl rfl rfl (half_turn m K c 5 7 rfl rfl rfl v15 (isNxt (k0_dev17_eq c)) (isPrv (k0_dev18_eq c)))) $$ HC HO HU P5 TA TB HL NA NB
  iintro ⟨HO, HU, P7, TA, TB, HL, NA, NB⟩
  iapply (cur2 (wp_out false c 0 _)) $$ TA o0
  iintro TA
  iapply (cur2 (wp_out true c 4 _)) $$ TB o4
  iintro TB
  ihave w00 := (WW_free m c 0 0 0) $$ w00
  iapply (cur5 (wp_loadw m K c 8 0 0 2)) $$ HC HW HG HO w00
  iintro ⟨HW, HG, HO, w00⟩
  iapply (cur3 (wp_dot m false c 2 1 0 1 _ (off3_0 c))) $$ x2 w10 NA
  iintro ⟨x2, w10, NA⟩
  iapply (cur3 (wp_dot m true c 2 1 1 5 _ (off4_0 c))) $$ x2 w11 NB
  iintro ⟨x2, w11, NB⟩
  iapply (at_add m K 6 7 8 9 2 2 1 5 rfl rfl rfl rfl rfl rfl rfl rfl (half_add m K c 6 8 rfl rfl (isNxt (k0_dev19_eq c)) (isPrv (k0_dev20_eq c)))) $$ HC HO HU P6 HL NA NB
  iintro ⟨HO, HU, P8, HL, NA, NB⟩
  iapply (at_add m K 7 8 9 10 2 2 1 5 rfl rfl rfl rfl rfl rfl rfl rfl (half_add m K c 7 9 rfl rfl (isNxt (k0_dev21_eq c)) (isPrv (k0_dev22_eq c)))) $$ HC HO HU P7 HL NA NB
  iintro ⟨HO, HU, P9, HL, NA, NB⟩
  ihave w01 := (WW_free m c 0 1 4) $$ w01
  iapply (cur5 (wp_loadw m K c 10 0 1 6)) $$ HC HW HG HO w01
  iintro ⟨HW, HG, HO, w01⟩
  iapply (cur3 (wp_dot m false c 1 1 0 1 _ (off3_1 c))) $$ x1 w10 NA
  iintro ⟨x1, w10, NA⟩
  iapply (cur3 (wp_dot m true c 3 1 1 5 _ (off4_1 c))) $$ x3 w11 NB
  iintro ⟨x3, w11, NB⟩
  iapply (at_add m K 8 9 10 11 1 3 1 5 rfl rfl rfl rfl rfl rfl rfl rfl (half_add m K c 8 10 rfl rfl (isNxt (k0_dev23_eq c)) (isPrv (k0_dev24_eq c)))) $$ HC HO HU P8 HL NA NB
  iintro ⟨HO, HU, P10, HL, NA, NB⟩
  iapply (at_add m K 9 10 11 12 1 3 1 5 rfl rfl rfl rfl rfl rfl rfl rfl (half_add m K c 9 11 rfl rfl (isNxt (k0_dev25_eq c)) (isPrv (k0_dev26_eq c)))) $$ HC HO HU P9 HL NA NB
  iintro ⟨HO, HU, P11, HL, NA, NB⟩
  iapply (cur3 (wp_out_wait m K false c 12 0 _)) $$ HC TA HO
  iintro ⟨TA, o0, HO⟩
  iapply (cur3 (wp_out_wait m K true c 12 4 _)) $$ HC TB HO
  iintro ⟨TB, o4, HO⟩
  iapply (cur3 (wp_dot_stage m false c 0 1 0 1 _ (off6_0 c))) $$ x0 w10 TA
  iintro ⟨x0, w10, TA⟩
  iapply (cur3 (wp_dot_stage m true c 0 1 1 5 _ (off6_0 c))) $$ x0 w11 TB
  iintro ⟨x0, w11, TB⟩
  iapply (cur3 (wp_dot m false c 3 0 0 2 _ (off2_3 c))) $$ x3 w00 NA
  iintro ⟨x3, w00, NA⟩
  iapply (cur3 (wp_dot m true c 1 0 1 6 _ (off2_1 c))) $$ x1 w01 NB
  iintro ⟨x1, w01, NB⟩
  iapply Hk
  isplitl [HX]; · iexact HX
  isplitl [HW]; · iexact HW
  isplitl [HG]; · iexact HG
  isplitl [HO]; · iexact HO
  isplitl [HU]; · iexact HU
  isplitl [P10]; · iexact P10
  isplitl [P11]; · iexact P11
  isplitl [HL]; · iexact HL
  isplitl [x3]; · iexact x3
  isplitl [x1]; · iexact x1
  isplitl [x2]; · iexact x2
  isplitl [x0]; · iexact x0
  isplitl [w10]; · iexact w10
  isplitl [w11]; · iexact w11
  isplitl [w00]; · iexact w00
  isplitl [w01]; · iexact w01
  isplitl [NA]; · iexact NA
  isplitl [NB]; · iexact NB
  isplitl [TA]; · iexact TA
  isplitl [TB]; · iexact TB
  isplitl [o0]; · iexact o0
  iexact o4

set_option maxHeartbeats 4000000 in
/-- Pass 2. -/
theorem stretch4_wp (c : Dev nD) (v2 v4 v7 : BitVec 32) (v15 : F .f32) (k : Prog (TpuEff nD τ sig (Elt F) Λ₀ .tc) PUnit) {Q : PUnit → sProp 𝕄} :
    iprop(Ctx m K ∗ HX m c ∗ HW m c ∗ Stg c ∗ Ow 12 c ∗ Un2 12 c ∗ Pe2 10 c ∗ Pe2 11 c ∗ Cl2 10 c ∗ XX m c 3 ∗ XX m c 1 ∗ XX m c 2 ∗ XX m c 0 ∗ WW m c 1 0 1 ∗ WW m c 1 1 5 ∗ WW m c 0 0 2 ∗ WW m c 0 1 6 ∗ Nx false c (prt m c (xj 3 c) 2) ∗ Nx true c (prt m c (xj 1 c) 6) ∗ St false c (prtF m c (xj 0 c) 1) ∗ St true c (prtF m c (xj 0 c) 5) ∗ Out0 c 1 ∗ Out0 c 5
      ∗ ((HX m c ∗ HW m c ∗ Stg c ∗ Ow 18 c ∗ Un2 18 c ∗ Pe2 16 c ∗ Pe2 17 c ∗ Cl2 16 c ∗ XX m c 3 ∗ XX m c 1 ∗ XX m c 2 ∗ XX m c 0 ∗ WW m c 0 0 2 ∗ WW m c 0 1 6 ∗ WW m c 1 0 3 ∗ WW m c 1 1 7 ∗ Nx false c (prt m c (xj 3 c) 3) ∗ Nx true c (prt m c (xj 1 c) 7) ∗ St false c (prtF m c (xj 0 c) 2) ∗ St true c (prtF m c (xj 0 c) 6) ∗ OutD c 1 (tAt m v15 false 1 c 2) ∗ OutD c 5 (tAt m v15 true 1 c 2)) -∗ WP c k Q))
      ⊢ WP c (stretch4 c v2 v4 v7 v15 k) Q := by
  unfold stretch4
  simp only [onBufs, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton]
  unfold k0_part44_skel k0_part45_skel k0_part46_skel k0_part47_skel k0_part48_skel k0_part49_skel k0_part50_skel k0_part51_skel k0_part52_skel k0_part53_skel k0_part54_skel k0_part55_skel k0_part56_skel k0_part57_skel k0_part58_skel k0_part59_skel k0_part60_skel k0_part61_skel k0_part62_skel k0_part63_skel k0_part64_skel k0_part65_skel
  simp only [Prog.lift, Prog.bind_op, Prog.bind_ret, Prog.pure_eq_ret, Prog.bind_assoc]
  iintro ⟨#HC, HX, HW, HG, HO, HU, P10, P11, HL, x3, x1, x2, x0, w10, w11, w00, w01, NA, NB, TA, TB, o1, o5, Hk⟩
  iapply (at_turn m K 10 11 12 13 3 1 2 6 (t := prtF m c (xj 0 c) 1) (t' := prtF m c (xj 0 c) 5) (u := tAt m v15 false 1 c 1) (u' := tAt m v15 true 1 c 1) rfl rfl rfl rfl rfl rfl rfl rfl rfl rfl rfl rfl (half_turn m K c 10 12 rfl rfl rfl v15 (isNxt (k0_dev27_eq c)) (isPrv (k0_dev28_eq c)))) $$ HC HO HU P10 TA TB HL NA NB
  iintro ⟨HO, HU, P12, TA, TB, HL, NA, NB⟩
  iapply (at_turn m K 11 12 13 14 3 1 2 6 (t := tAt m v15 false 1 c 1) (t' := tAt m v15 true 1 c 1) (u := tAt m v15 false 1 c 2) (u' := tAt m v15 true 1 c 2) rfl rfl rfl rfl rfl rfl rfl rfl rfl rfl rfl rfl (half_turn m K c 11 13 rfl rfl rfl v15 (isNxt (k0_dev29_eq c)) (isPrv (k0_dev30_eq c)))) $$ HC HO HU P11 TA TB HL NA NB
  iintro ⟨HO, HU, P13, TA, TB, HL, NA, NB⟩
  iapply (cur2 (wp_out false c 1 _)) $$ TA o1
  iintro TA
  iapply (cur2 (wp_out true c 5 _)) $$ TB o5
  iintro TB
  ihave w10 := (WW_free m c 1 0 1) $$ w10
  iapply (cur5 (wp_loadw m K c 14 1 0 3)) $$ HC HW HG HO w10
  iintro ⟨HW, HG, HO, w10⟩
  iapply (cur3 (wp_dot m false c 2 0 0 2 _ (off3_0 c))) $$ x2 w00 NA
  iintro ⟨x2, w00, NA⟩
  iapply (cur3 (wp_dot m true c 2 0 1 6 _ (off4_0 c))) $$ x2 w01 NB
  iintro ⟨x2, w01, NB⟩
  iapply (at_add m K 12 13 14 15 2 2 2 6 rfl rfl rfl rfl rfl rfl rfl rfl (half_add m K c 12 14 rfl rfl (isNxt (k0_dev31_eq c)) (isPrv (k0_dev32_eq c)))) $$ HC HO HU P12 HL NA NB
  iintro ⟨HO, HU, P14, HL, NA, NB⟩
  iapply (at_add m K 13 14 15 16 2 2 2 6 rfl rfl rfl rfl rfl rfl rfl rfl (half_add m K c 13 15 rfl rfl (isNxt (k0_dev33_eq c)) (isPrv (k0_dev34_eq c)))) $$ HC HO HU P13 HL NA NB
  iintro ⟨HO, HU, P15, HL, NA, NB⟩
  ihave w11 := (WW_free m c 1 1 5) $$ w11
  iapply (cur5 (wp_loadw m K c 16 1 1 7)) $$ HC HW HG HO w11
  iintro ⟨HW, HG, HO, w11⟩
  iapply (cur3 (wp_dot m false c 1 0 0 2 _ (off3_1 c))) $$ x1 w00 NA
  iintro ⟨x1, w00, NA⟩
  iapply (cur3 (wp_dot m true c 3 0 1 6 _ (off4_1 c))) $$ x3 w01 NB
  iintro ⟨x3, w01, NB⟩
  iapply (at_add m K 14 15 16 17 1 3 2 6 rfl rfl rfl rfl rfl rfl rfl rfl (half_add m K c 14 16 rfl rfl (isNxt (k0_dev35_eq c)) (isPrv (k0_dev36_eq c)))) $$ HC HO HU P14 HL NA NB
  iintro ⟨HO, HU, P16, HL, NA, NB⟩
  iapply (at_add m K 15 16 17 18 1 3 2 6 rfl rfl rfl rfl rfl rfl rfl rfl (half_add m K c 15 17 rfl rfl (isNxt (k0_dev37_eq c)) (isPrv (k0_dev38_eq c)))) $$ HC HO HU P15 HL NA NB
  iintro ⟨HO, HU, P17, HL, NA, NB⟩
  iapply (cur3 (wp_out_wait m K false c 18 1 _)) $$ HC TA HO
  iintro ⟨TA, o1, HO⟩
  iapply (cur3 (wp_out_wait m K true c 18 5 _)) $$ HC TB HO
  iintro ⟨TB, o5, HO⟩
  iapply (cur3 (wp_dot_stage m false c 0 0 0 2 _ (off6_0 c))) $$ x0 w00 TA
  iintro ⟨x0, w00, TA⟩
  iapply (cur3 (wp_dot_stage m true c 0 0 1 6 _ (off6_0 c))) $$ x0 w01 TB
  iintro ⟨x0, w01, TB⟩
  iapply (cur3 (wp_dot m false c 3 1 0 3 _ (off2_3 c))) $$ x3 w10 NA
  iintro ⟨x3, w10, NA⟩
  iapply (cur3 (wp_dot m true c 1 1 1 7 _ (off2_1 c))) $$ x1 w11 NB
  iintro ⟨x1, w11, NB⟩
  iapply Hk
  isplitl [HX]; · iexact HX
  isplitl [HW]; · iexact HW
  isplitl [HG]; · iexact HG
  isplitl [HO]; · iexact HO
  isplitl [HU]; · iexact HU
  isplitl [P16]; · iexact P16
  isplitl [P17]; · iexact P17
  isplitl [HL]; · iexact HL
  isplitl [x3]; · iexact x3
  isplitl [x1]; · iexact x1
  isplitl [x2]; · iexact x2
  isplitl [x0]; · iexact x0
  isplitl [w00]; · iexact w00
  isplitl [w01]; · iexact w01
  isplitl [w10]; · iexact w10
  isplitl [w11]; · iexact w11
  isplitl [NA]; · iexact NA
  isplitl [NB]; · iexact NB
  isplitl [TA]; · iexact TA
  isplitl [TB]; · iexact TB
  isplitl [o1]; · iexact o1
  iexact o5

end Cert.KernelProof

end
-- ==== Proof.Body3.lean ====
/-
The last pass of the body, group by group.
-/
module

public import proofs.«01_k».proof.Proof.Segs

@[expose] public section

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : GSem nD τ sig → ℕ)

set_option maxHeartbeats 4000000 in
/-- Pass 3, and the last copies out. -/
theorem stretch5_wp (c : Dev nD) (v2 v4 v7 : BitVec 32) (v15 : F .f32) {Q : PUnit → sProp 𝕄} :
    iprop(Ctx m K ∗ HX m c ∗ HW m c ∗ Stg c ∗ Ow 18 c ∗ Un2 18 c ∗ Pe2 16 c ∗ Pe2 17 c ∗ Cl2 16 c ∗ XX m c 3 ∗ XX m c 1 ∗ XX m c 2 ∗ XX m c 0 ∗ WW m c 1 0 3 ∗ WW m c 1 1 7 ∗ Nx false c (prt m c (xj 3 c) 3) ∗ Nx true c (prt m c (xj 1 c) 7) ∗ St false c (prtF m c (xj 0 c) 2) ∗ St true c (prtF m c (xj 0 c) 6) ∗ Out0 c 2 ∗ Out0 c 6 ∗ Out0 c 3 ∗ Out0 c 7
      ∗ ((HX m c ∗ HW m c ∗ Stg c ∗ Ow 24 c ∗ Un2 24 c ∗ Cl2 24 c ∗ XX m c 3 ∗ XX m c 1 ∗ XX m c 2 ∗ XX m c 0 ∗ WW m c 1 0 3 ∗ WW m c 1 1 7 ∗ Nx false c (prt m c (xj 1 c) 3) ∗ Nx true c (prt m c (xj 3 c) 7) ∗ St false c (tAt m v15 false 3 c 2) ∗ St true c (tAt m v15 true 3 c 2) ∗ OutD c 2 (tAt m v15 false 2 c 2) ∗ OutD c 6 (tAt m v15 true 2 c 2) ∗ OutD c 3 (tAt m v15 false 3 c 2) ∗ OutD c 7 (tAt m v15 true 3 c 2)) -∗ WP c (.ret ⟨⟩) Q))
      ⊢ WP c (stretch5 c v2 v4 v7 v15) Q := by
  unfold stretch5
  simp only [onBufs, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton]
  unfold k0_part66_skel k0_part67_skel k0_part68_skel k0_part69_skel k0_part70_skel k0_part71_skel k0_part72_skel k0_part73_skel k0_part74_skel k0_part75_skel k0_part76_skel k0_part77_skel k0_part78_skel k0_part79_skel k0_part80_skel k0_part81_skel k0_part82_skel k0_part83_skel k0_part84_skel k0_part85_skel k0_part86_skel k0_part87_skel k0_part88_skel k0_part89_skel k0_part90_skel
  simp only [Prog.lift, Prog.bind_op, Prog.bind_ret, Prog.pure_eq_ret, Prog.bind_assoc]
  iintro ⟨#HC, HX, HW, HG, HO, HU, P16, P17, HL, x3, x1, x2, x0, w10, w11, NA, NB, TA, TB, o2, o6, o3, o7, Hk⟩
  iapply (at_turn m K 16 17 18 19 3 1 3 7 (t := prtF m c (xj 0 c) 2) (t' := prtF m c (xj 0 c) 6) (u := tAt m v15 false 2 c 1) (u' := tAt m v15 true 2 c 1) rfl rfl rfl rfl rfl rfl rfl rfl rfl rfl rfl rfl (half_turn m K c 16 18 rfl rfl rfl v15 (isNxt (k0_dev39_eq c)) (isPrv (k0_dev40_eq c)))) $$ HC HO HU P16 TA TB HL NA NB
  iintro ⟨HO, HU, P18, TA, TB, HL, NA, NB⟩
  iapply (at_turn m K 17 18 19 20 3 1 3 7 (t := tAt m v15 false 2 c 1) (t' := tAt m v15 true 2 c 1) (u := tAt m v15 false 2 c 2) (u' := tAt m v15 true 2 c 2) rfl rfl rfl rfl rfl rfl rfl rfl rfl rfl rfl rfl (half_turn m K c 17 19 rfl rfl rfl v15 (isNxt (k0_dev41_eq c)) (isPrv (k0_dev42_eq c)))) $$ HC HO HU P17 TA TB HL NA NB
  iintro ⟨HO, HU, P19, TA, TB, HL, NA, NB⟩
  iapply (cur2 (wp_out false c 2 _)) $$ TA o2
  iintro TA
  iapply (cur2 (wp_out true c 6 _)) $$ TB o6
  iintro TB
  iapply (cur3 (wp_dot m false c 2 1 0 3 _ (off3_0 c))) $$ x2 w10 NA
  iintro ⟨x2, w10, NA⟩
  iapply (cur3 (wp_dot m true c 2 1 1 7 _ (off4_0 c))) $$ x2 w11 NB
  iintro ⟨x2, w11, NB⟩
  iapply (at_add m K 18 19 20 21 2 2 3 7 rfl rfl rfl rfl rfl rfl rfl rfl (half_add m K c 18 20 rfl rfl (isNxt (k0_dev43_eq c)) (isPrv (k0_dev44_eq c)))) $$ HC HO HU P18 HL NA NB
  iintro ⟨HO, HU, P20, HL, NA, NB⟩
  iapply (at_add m K 19 20 21 22 2 2 3 7 rfl rfl rfl rfl rfl rfl rfl rfl (half_add m K c 19 21 rfl rfl (isNxt (k0_dev45_eq c)) (isPrv (k0_dev46_eq c)))) $$ HC HO HU P19 HL NA NB
  iintro ⟨HO, HU, P21, HL, NA, NB⟩
  iapply (cur3 (wp_dot m false c 1 1 0 3 _ (off3_1 c))) $$ x1 w10 NA
  iintro ⟨x1, w10, NA⟩
  iapply (cur3 (wp_dot m true c 3 1 1 7 _ (off4_1 c))) $$ x3 w11 NB
  iintro ⟨x3, w11, NB⟩
  iapply (at_add m K 20 21 22 23 1 3 3 7 rfl rfl rfl rfl rfl rfl rfl rfl (half_add m K c 20 22 rfl rfl (isNxt (k0_dev47_eq c)) (isPrv (k0_dev48_eq c)))) $$ HC HO HU P20 HL NA NB
  iintro ⟨HO, HU, P22, HL, NA, NB⟩
  iapply (at_add m K 21 22 23 24 1 3 3 7 rfl rfl rfl rfl rfl rfl rfl rfl (half_add m K c 21 23 rfl rfl (isNxt (k0_dev49_eq c)) (isPrv (k0_dev50_eq c)))) $$ HC HO HU P21 HL NA NB
  iintro ⟨HO, HU, P23, HL, NA, NB⟩
  iapply (cur3 (wp_out_wait m K false c 24 2 _)) $$ HC TA HO
  iintro ⟨TA, o2, HO⟩
  iapply (cur3 (wp_out_wait m K true c 24 6 _)) $$ HC TB HO
  iintro ⟨TB, o6, HO⟩
  iapply (cur3 (wp_dot_stage m false c 0 1 0 3 _ (off6_0 c))) $$ x0 w10 TA
  iintro ⟨x0, w10, TA⟩
  iapply (cur3 (wp_dot_stage m true c 0 1 1 7 _ (off6_0 c))) $$ x0 w11 TB
  iintro ⟨x0, w11, TB⟩
  iapply (at_last m K 22 23 (t := prtF m c (xj 0 c) 3) (t' := prtF m c (xj 0 c) 7) (u := tAt m v15 false 3 c 1) (u' := tAt m v15 true 3 c 1) rfl rfl rfl rfl rfl rfl (half_last m K c 22 (by decide) rfl v15)) $$ HC HO P22 TA TB HL
  iintro ⟨HO, TA, TB, HL⟩
  iapply (at_last m K 23 24 (t := tAt m v15 false 3 c 1) (t' := tAt m v15 true 3 c 1) (u := tAt m v15 false 3 c 2) (u' := tAt m v15 true 3 c 2) rfl rfl rfl rfl rfl rfl (half_last m K c 23 (by decide) rfl v15)) $$ HC HO P23 TA TB HL
  iintro ⟨HO, TA, TB, HL⟩
  iapply (cur2 (wp_out false c 3 _)) $$ TA o3
  iintro TA
  iapply (cur2 (wp_out true c 7 _)) $$ TB o7
  iintro TB
  iapply (cur3 (wp_out_wait m K false c 24 3 _)) $$ HC TA HO
  iintro ⟨TA, o3, HO⟩
  iapply (cur3 (wp_out_wait m K true c 24 7 _)) $$ HC TB HO
  iintro ⟨TB, o7, HO⟩
  iapply Hk
  isplitl [HX]; · iexact HX
  isplitl [HW]; · iexact HW
  isplitl [HG]; · iexact HG
  isplitl [HO]; · iexact HO
  isplitl [HU]; · iexact HU
  isplitl [HL]; · iexact HL
  isplitl [x3]; · iexact x3
  isplitl [x1]; · iexact x1
  isplitl [x2]; · iexact x2
  isplitl [x0]; · iexact x0
  isplitl [w10]; · iexact w10
  isplitl [w11]; · iexact w11
  isplitl [NA]; · iexact NA
  isplitl [NB]; · iexact NB
  isplitl [TA]; · iexact TA
  isplitl [TB]; · iexact TB
  isplitl [o2]; · iexact o2
  isplitl [o6]; · iexact o6
  isplitl [o3]; · iexact o3
  iexact o7

end Cert.KernelProof

end
-- ==== Proof.Body.lean ====
/-
The whole body of the region.
-/
module

public import proofs.«01_k».proof.Proof.Start
public import proofs.«01_k».proof.Proof.Body1
public import proofs.«01_k».proof.Proof.Body2
public import proofs.«01_k».proof.Proof.Body3

@[expose] public section

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : GSem nD τ sig → ℕ)

/-- The buffers of a device's own. -/
def Scr (c : Dev nD) : sProp 𝕄 :=
  iprop(Held cc0_scratch0 c ∗ Held cc0_scratch1 c ∗ Held cc0_scratch2 c ∗ Held cc0_scratch3 c ∗ Held cc0_scratch4 c ∗ Held cc0_scratch5 c
    ∗ Held cc0_scratch6 c ∗ Held cc0_scratch7 c ∗ Held cc0_scratch8 c ∗ Held cc0_scratch9 c ∗ Held cc0_scratch10 c)
/-- The semaphores of the copies to the result. -/
def OSem (c : Dev nD) : sProp 𝕄 := bigSep Finset.univ fun b : Fin 8 => semVal (oC b c) 0

/-- What block `b` of the result holds in the end. -/
def fin (s : F .f32) (c : Dev nD) (b : Fin 8) : Vec F S1024x1024 .f32 :=
  tAt m s (decide (4 ≤ b.val)) ⟨b.val % 4, Nat.mod_lt _ (by decide)⟩ c 2
/-- The result, block by block. -/
def Done (s : F .f32) (c : Dev nD) : sProp 𝕄 :=
  iprop(∃ g : Buf (Elt F) ((c : Thread nD τ).loc main_v1), ⌜∀ b, (oM.access (oR b)).read (Elt F) g = fin m s c b⌝ ∗ (((c : Thread nD τ).loc main_v1) ↦{fullShare} g))

theorem out_split (c : Dev nD) : iprop(Held main_v1 c ∗ OSem c)
    ⊢ iprop(Out0 (F := F) c 0 ∗ Out0 c 4 ∗ Out0 c 1 ∗ Out0 c 5 ∗ Out0 c 2 ∗ Out0 c 6 ∗ Out0 c 3 ∗ Out0 c 7) := by
  refine (BI.sep_mono_l (o_split c)).trans ?_
  unfold OSem
  exact (Entails.of_eq (BI.bigSep_sep' Finset.univ (fun b => Any (F := F) c oM (oR b)) (fun b : Fin 8 => semVal (oC b c) 0)).symm).trans
    (Entails.of_eq (eight (Φ := fun b => Out0 c b)))
theorem out_join (s : F .f32) (c : Dev nD) :
    iprop(OutD c 0 (tAt m s false 0 c 2) ∗ OutD c 4 (tAt m s true 0 c 2) ∗ OutD c 1 (tAt m s false 1 c 2) ∗ OutD c 5 (tAt m s true 1 c 2)
      ∗ OutD c 2 (tAt m s false 2 c 2) ∗ OutD c 6 (tAt m s true 2 c 2) ∗ OutD c 3 (tAt m s false 3 c 2) ∗ OutD c 7 (tAt m s true 3 c 2))
      ⊢ iprop(Done m s c ∗ OSem c) := by
  refine (Entails.of_eq (eight (Φ := fun b => OutD c b (fin m s c b))).symm).trans ?_
  unfold OutD OSem
  rw [BI.bigSep_sep']
  exact BI.sep_mono_l (o_join c (fin m s c))

/-- The buffers before the head, dealt to the stretches. -/
theorem nx_held (c : Dev nD) : iprop(Held (F := F) cc0_scratch7 c ∗ Held cc0_scratch8 c ∗ Held cc0_scratch9 c ∗ Held cc0_scratch10 c)
    ⊢ iprop((∃ w, Nx false c w) ∗ (∃ w, Nx true c w) ∗ (∃ w, St false c w) ∗ (∃ w, St true c w)) := Entails.refl _
theorem held_nx (c : Dev nD) : iprop((∃ w, Nx (F := F) false c w) ∗ (∃ w, Nx true c w) ∗ (∃ w, St false c w) ∗ (∃ w, St true c w))
    ⊢ iprop(Held cc0_scratch7 c ∗ Held cc0_scratch8 c ∗ Held cc0_scratch9 c ∗ Held cc0_scratch10 c) := Entails.refl _
theorem gb_held (c : Dev nD) : Held (F := F) cc0_scratch2 c ⊢ iprop(∃ w, Gb c w) := Entails.refl _
theorem held_gb (c : Dev nD) : iprop(∃ w, Gb (F := F) c w) ⊢ Held cc0_scratch2 c := Entails.refl _

theorem xx_free (c : Dev nD) (r : ℕ) : XX m c r ⊢ X0 (F := F) c r := by
  unfold XX X0 Own Any
  iintro ⟨%f, %_, H⟩
  iexists f; iexact H

/-- What a device brings to the body, and what it has of it afterwards. -/
def BodyPre (c : Dev nD) (f0 f1 : Vec F S1 .f32) (W : Waits sig Unit) : sProp 𝕄 :=
  iprop(Bar0 c ∗ owes (c : Thread nD τ) (O₀ c) W ∗ (Toks false c ∗ Toks true c) ∗ semVal (gC c) 0 ∗ OSem c ∗ HX m c ∗ HW m c ∗ Held main_v1 c ∗ Scr c ∗ Sg0 c f0 ∗ Sg1 c f1)
def BodyPost (c : Dev nD) (f0 f1 : Vec F S1 .f32) : sProp 𝕄 :=
  iprop(Ow 24 c ∗ semVal (barC c) 0 ∗ (Sems false c ∗ Sems true c) ∗ semVal (gC c) 0 ∗ OSem c ∗ HX m c ∗ HW m c ∗ Done m (sc f0 f1) c ∗ Scr c ∗ Sg0 c f0 ∗ Sg1 c f1)

set_option maxHeartbeats 4000000 in
theorem body_wp (c : Dev nD) (f0 f1 : Vec F S1 .f32) (W) :
    iprop(Ctx m K ∗ BodyPre m c f0 f1 W) ⊢ WP c (onBufs (cc0_body (F := F))) (fun _ => BodyPost m c f0 f1) := by
  rw [body_eq]
  unfold BodyPre Scr
  iintro ⟨#HC, HB, HO, ⟨T0, T1⟩, Hg, Ho, HX, HW, Hv, ⟨s0, s1, s2, s3, s4, s5, s6, s7, s8, s9, s10⟩, S0, S1⟩
  ihave s0 := (x_split c) $$ s0
  icases s0 with ⟨x3, x1, x2, x0⟩
  ihave s1 := (w_split c) $$ s1
  icases s1 with ⟨w00, w01, w10, w11⟩
  ihave s2 := (gb_held c) $$ s2
  ihave s3 := (s_split false c) $$ s3
  ihave s4 := (s_split true c) $$ s4
  ihave N := (nx_held c) $$ [s7 s8 s9 s10]
  · iframe
  icases N with ⟨NA, NB, TA, TB⟩
  ihave Hout := (out_split c) $$ [Hv Ho]
  · iframe
  icases Hout with ⟨o0, o4, o1, o5, o2, o6, o3, o7⟩
  iapply (part1_wp m K c f0 f1 W)
  iframe HC HB HO s5 s6 S0 S1 HW w00
  isplitl [s2 Hg]
  · unfold Stg; iframe
  iintro %v2 %v4 %v7 ⟨HO, Hz, B0, B1, S0, S1, HW, HG, w00⟩
  ihave HU := (un_zero c) $$ [T0 T1 B0 B1 s3 s4]
  · iframe
  dsimp only
  iapply (stretch1_wp m K c v2 v4 v7)
  iframe HC HX HW HG HO HU x3 x1 x2 w00 w01 w10 NA NB
  iintro ⟨HX, HW, HG, HO, HU, P0, P1, x3, x1, x2, w00, w01, w10, NA, NB⟩
  ihave HL := (cl_zero c) $$ []
  · iempintro
  iapply (stretch2_wp m K c v2 v4 v7)
  iframe HC HX HW HG HO HU P0 P1 HL x3 x1 x2 x0 w00 w01 w10 w11 NA NB TA TB
  iintro ⟨HX, HW, HG, HO, HU, P0, P1, HL, x3, x1, x2, x0, w00, w01, w10, w11, NA, NB, TA, TB⟩
  iapply (stretch3_wp m K c v2 v4 v7 (sc f0 f1))
  iframe HC HX HW HG HO HU P0 P1 HL x3 x1 x2 x0 w00 w01 w10 w11 NA NB TA TB o0 o4
  iintro ⟨HX, HW, HG, HO, HU, P0, P1, HL, x3, x1, x2, x0, w10, w11, w00, w01, NA, NB, TA, TB, o0, o4⟩
  iapply (stretch4_wp m K c v2 v4 v7 (sc f0 f1))
  iframe HC HX HW HG HO HU P0 P1 HL x3 x1 x2 x0 w00 w01 w10 w11 NA NB TA TB o1 o5
  iintro ⟨HX, HW, HG, HO, HU, P0, P1, HL, x3, x1, x2, x0, w00, w01, w10, w11, NA, NB, TA, TB, o1, o5⟩
  iapply (stretch5_wp m K c v2 v4 v7 (sc f0 f1))
  iframe HC HX HW HG HO HU P0 P1 HL x3 x1 x2 x0 w10 w11 NA NB TA TB o2 o6 o3 o7
  iintro ⟨HX, HW, HG, HO, -, HL, x3, x1, x2, x0, w10, w11, NA, NB, TA, TB, o2, o6, o3, o7⟩
  unfold WP; rw [wp_ret]
  imodintro
  ihave HL := (cl_done c) $$ HL
  icases HL with ⟨⟨Z0, s5, s3⟩, ⟨Z1, s6, s4⟩⟩
  ihave Hout := (out_join m (sc f0 f1) c) $$ [o0 o4 o1 o5 o2 o6 o3 o7]
  · iframe
  icases Hout with ⟨Hv, Ho⟩
  ihave x3 := (xx_free m c 3) $$ x3
  ihave x1 := (xx_free m c 1) $$ x1
  ihave x2 := (xx_free m c 2) $$ x2
  ihave x0 := (xx_free m c 0) $$ x0
  ihave s0 := (x_join c) $$ [x3 x1 x2 x0]
  · iframe
  ihave w00 := (WW_free m c 0 0 2) $$ w00
  ihave w01 := (WW_free m c 0 1 6) $$ w01
  ihave w10 := (WW_free m c 1 0 3) $$ w10
  ihave w11 := (WW_free m c 1 1 7) $$ w11
  ihave s1 := (w_join c) $$ [w00 w01 w10 w11]
  · iframe
  unfold Stg
  icases HG with ⟨s2, Hg⟩
  ihave s2 := (held_gb c) $$ s2
  ihave N := (held_nx c) $$ [NA NB TA TB]
  · isplitl [NA]; · iexists _; iexact NA
    isplitl [NB]; · iexists _; iexact NB
    isplitl [TA]; · iexists _; iexact TA
    iexists _; iexact TB
  icases N with ⟨s7, s8, s9, s10⟩
  unfold BodyPost Scr
  iframe

end Cert.KernelProof

end
-- ==== Proof.Deal.lean ====
/-
The cells and tokens a launch makes, and how they are dealt to the devices.
-/
module

public import proofs.«01_k».proof.Proof.Body

@[expose] public section

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Families over the semaphores -/

theorem opt_split {A : Type} [Fintype A] [DecidableEq A] (Φ : Option A → sProp 𝕄) :
    bigSep Finset.univ Φ = iprop(Φ none ∗ bigSep Finset.univ fun a => Φ (some a)) := by
  rw [bigSep_univ_at Φ none, show (Finset.univ.erase none : Finset (Option A)) = Finset.univ.map Function.Embedding.some from by
    ext x; cases x <;> simp, BI.bigSep_map]
  rfl
theorem bool_split (Φ : Bool → sProp 𝕄) : bigSep Finset.univ Φ = iprop(Φ false ∗ Φ true) :=
  bigSep_univ_eq_bigSepL [false, true] (by decide) (by decide) Φ
theorem x_family (Φ : Bool × Bool × Fin 24 → sProp 𝕄) :
    bigSep Finset.univ Φ = iprop(((bigSep Finset.univ fun i => Φ (false, false, i)) ∗ (bigSep Finset.univ fun i => Φ (false, true, i)))
      ∗ ((bigSep Finset.univ fun i => Φ (true, false, i)) ∗ (bigSep Finset.univ fun i => Φ (true, true, i)))) := by
  rw [BI.bigSep_univ_prod, bool_split, BI.bigSep_univ_prod, BI.bigSep_univ_prod, bool_split, bool_split]
theorem k_family (Φ : GSem nD τ sig → sProp 𝕄) :
    bigSep ringCells Φ = bigSep Finset.univ fun c : Dev nD => iprop(Φ (barC c) ∗ bigSep Finset.univ fun k : Bool × Bool × Fin 24 => Φ (xC k.1 k.2.1 k.2.2 c)) := by
  unfold ringCells
  rw [BI.bigSep_map, BI.bigSep_univ_prod]
  exact BI.bigSep_congr fun c _ => opt_split _

/-! ## The tokens -/

abbrev TI : Type := Bool ⊕ (Bool × Bool × Fin 24)
def tokOf (p : Dev nD × TI) : GSem nD τ sig × ℕ × Bool := match p.2 with
  | .inl b => (barC p.1, 0, b)
  | .inr (d, r, i) => (xC d r i p.1, 0, false)
theorem tokOf_injective : Function.Injective tokOf := by
  rintro ⟨c, k⟩ ⟨c', k'⟩ h
  have h1 : c = c' := by
    have := congrArg (fun x : GSem nD τ sig × ℕ × Bool => x.1.1.1) h
    rcases k with b | ⟨d, r, i⟩ <;> rcases k' with b' | ⟨d', r', i'⟩ <;> exact this
  subst h1
  rcases k with b | ⟨d, r, i⟩ <;> rcases k' with b' | ⟨d', r', i'⟩
  · have h2 : b = b' := congrArg (fun x : GSem nD τ sig × ℕ × Bool => x.2.2) h
    subst h2; rfl
  · exact absurd (congrArg (fun x : GSem nD τ sig × ℕ × Bool => x.1.2) h) (fun h' => by cases h')
  · exact absurd (congrArg (fun x : GSem nD τ sig × ℕ × Bool => x.1.2) h) (fun h' => by cases h')
  · have h2 : SemLoc.dma (xsem d r i) = SemLoc.dma (xsem d' r' i') := congrArg (fun x : GSem nD τ sig × ℕ × Bool => x.1.2) h
    obtain ⟨rfl, rfl, rfl⟩ := xsem_inj (SemLoc.dma.inj h2)
    rfl
def ringToks : Finset (GSem nD τ sig × ℕ × Bool) := Finset.univ.map ⟨tokOf, tokOf_injective⟩

/-- The tokens of a device's own cells, and those of the duties it pays. -/
def ownT (c : Dev nD) : sProp 𝕄 :=
  iprop((dutyTok ER (barC c) 0 false ∗ dutyTok ER (barC c) 0 true)
    ∗ (((bigSep Finset.univ fun i => dutyTok ER (xC false false i c) 0 false) ∗ (bigSep Finset.univ fun i => dutyTok ER (xC false true i c) 0 false))
      ∗ ((bigSep Finset.univ fun i => dutyTok ER (xC true false i c) 0 false) ∗ (bigSep Finset.univ fun i => dutyTok ER (xC true true i c) 0 false))))
def payT (c : Dev nD) : sProp 𝕄 :=
  iprop((dutyTok ER (barC (prv c)) 0 false ∗ dutyTok ER (barC (nxt c)) 0 true)
    ∗ (((bigSep Finset.univ fun i => dutyTok ER (xC false false i c) 0 false) ∗ (bigSep Finset.univ fun i => dutyTok ER (xC false true i (dstOf false c)) 0 false))
      ∗ ((bigSep Finset.univ fun i => dutyTok ER (xC true false i c) 0 false) ∗ (bigSep Finset.univ fun i => dutyTok ER (xC true true i (dstOf true c)) 0 false))))
theorem tok_family : bigSep ringToks (fun x => (dutyTok ER x.1 x.2.1 x.2.2 : sProp 𝕄)) = bigSep Finset.univ fun c : Dev nD => ownT c := by
  unfold ringToks
  rw [BI.bigSep_map, BI.bigSep_univ_prod]
  refine BI.bigSep_congr fun c _ => ?_
  rw [BI.bigSep_univ_sum, bool_split, x_family]
  rfl

def dstE (d : Bool) : Dev nD ≃ Dev nD := ⟨dstOf d, srcOf d, src_dst d, dst_src d⟩
theorem around : (bigSep Finset.univ fun c : Dev nD => (ownT c : sProp 𝕄)) ⊢ bigSep Finset.univ fun c : Dev nD => payT c := by
  unfold ownT payT
  simp only [BI.bigSep_sep']
  rw [bigSep_univ_equiv ring.symm (fun c : Dev nD => (dutyTok ER (barC c) 0 false : sProp 𝕄)),
    bigSep_univ_equiv ring (fun c : Dev nD => (dutyTok ER (barC c) 0 true : sProp 𝕄)),
    bigSep_univ_equiv (dstE false) (fun c : Dev nD => (bigSep Finset.univ fun i => dutyTok ER (xC false true i c) 0 false : sProp 𝕄)),
    bigSep_univ_equiv (dstE true) (fun c : Dev nD => (bigSep Finset.univ fun i => dutyTok ER (xC true true i c) 0 false : sProp 𝕄))]
  exact Entails.refl _

/-! ## What the launch deals -/

/-- A device's positions. -/
def posT (c : Dev nD) : sProp 𝕄 :=
  iprop(atPos ER (barC c) 0 ∅ 0
    ∗ bigSep Finset.univ fun k : Bool × Bool × Fin 24 => atPos ER (xC k.1 k.2.1 k.2.2 c) 0 ∅ 0)
def stT (c : Dev nD) : sProp 𝕄 :=
  iprop(roundState ER (Rd m) (barC c) 0 ∗ bigSep Finset.univ fun k : Bool × Bool × Fin 24 => roundState ER (Rd m) (xC k.1 k.2.1 k.2.2 c) 0)
def reT (c : Dev nD) : sProp 𝕄 :=
  iprop(reached ER (barC c) 0 ∗ bigSep Finset.univ fun k : Bool × Bool × Fin 24 => reached ER (xC k.1 k.2.1 k.2.2 c) 0)
def seT (c : Dev nD) : sProp 𝕄 :=
  iprop(semVal (barC c) 0 ∗ bigSep Finset.univ fun k : Bool × Bool × Fin 24 => semVal (xC k.1 k.2.1 k.2.2 c) 0)
/-- A device's part of what the launch makes of the cells. -/
def G (c : Dev nD) : sProp 𝕄 := iprop(stT m c ∗ reT c ∗ posT c ∗ ownT c)
theorem st_family : bigSep ringCells (fun g => (roundState ER (Rd m) g 0 : sProp 𝕄)) = bigSep Finset.univ (stT (F := F) m) := k_family _
theorem re_family : bigSep ringCells (fun g => (reached ER g 0 : sProp 𝕄)) = bigSep Finset.univ (reT (F := F)) := k_family _
theorem po_family : bigSep ringCells (fun g => (atPos ER g 0 ∅ 0 : sProp 𝕄)) = bigSep Finset.univ (posT (F := F)) := k_family _
theorem se_family : bigSep ringCells (fun g => (semVal g 0 : sProp 𝕄)) = bigSep Finset.univ (seT (F := F)) := k_family _

theorem fund_ring : BI.own (ER (initOf ringCells ringToks)) ⊢ (|==> bigSep Finset.univ (G (F := F) m) : sProp 𝕄) := by
  iintro HX
  imod (Rounds.fund ER (Rd m) ringCells ringToks) $$ HX with ⟨Hst, Hr, Hat, Htok⟩
  imodintro
  ihave Hst := (Entails.of_eq (st_family m)) $$ Hst
  ihave Hat := (Entails.of_eq po_family) $$ Hat
  ihave Hr := (Entails.of_eq re_family) $$ Hr
  ihave Htok := (Entails.of_eq tok_family) $$ Htok
  unfold G
  rw [BI.bigSep_sep', BI.bigSep_sep', BI.bigSep_sep']
  isplitl [Hst]; · iexact Hst
  isplitl [Hr]; · iexact Hr
  isplitl [Hat]; · iexact Hat
  iexact Htok

/-- The kernel's own semaphores: the staging copy's, the transfers', the copies' to the result. -/
abbrev OK : Type := Unit ⊕ (Bool × Bool × Fin 24) ⊕ Fin 8
def own (k : OK) : SemLoc sig := match k with
  | .inl _ => .dma gsem
  | .inr (.inl (d, r, i)) => .dma (xsem d r i)
  | .inr (.inr b) => .dma (osem b)
theorem own_val_x (d r : Bool) (i : Fin 24) : 3 ≤ (xsem d r i).val ∧ (xsem d r i).val < 99 := by
  have := i.isLt
  simp only [xsem]; cases d <;> cases r <;> simp <;> omega
theorem own_val_o (b : Fin 8) : 99 ≤ (osem b).val := Nat.le_add_right _ _
theorem osem_inj {b b' : Fin 8} (h : osem b = osem b') : b = b' := by revert b b'; decide
theorem own_injective : Function.Injective own := by
  rintro (_ | ⟨d, r, i⟩ | b) (_ | ⟨d', r', i'⟩ | b') h
  all_goals have h := SemLoc.dma.inj h
  · rfl
  · exact absurd (congrArg Fin.val h) (by have := own_val_x d' r' i'; simp only [gsem]; omega)
  · exact absurd (congrArg Fin.val h) (by have := own_val_o b'; simp only [gsem]; omega)
  · exact absurd (congrArg Fin.val h) (by have := own_val_x d r i; simp only [gsem]; omega)
  · obtain ⟨rfl, rfl, rfl⟩ := xsem_inj h; rfl
  · exact absurd (congrArg Fin.val h) (by have := own_val_x d r i; have := own_val_o b'; omega)
  · exact absurd (congrArg Fin.val h) (by have := own_val_o b; simp only [gsem]; omega)
  · exact absurd (congrArg Fin.val h) (by have := own_val_x d' r' i'; have := own_val_o b; omega)
  · rw [osem_inj h]
theorem own_facts : Pipeline.OwnSemFacts cfg0.spec own where
  isScoped := by
    rintro (u | ⟨d, r, i⟩ | b)
    · cases u; decide
    · revert d r i; decide
    · revert b; decide
  inj := own_injective
  disj := by
    rintro (u | ⟨d, r, i⟩ | b) w s
    · cases u; revert w s; decide
    · revert d r i w s; decide
    · revert b w s; decide

abbrev own0 (c : Dev nD) : sProp 𝕄 := Pipeline.ownSems0 (Ix := Unit) (Name := ℕ) (U := UU) (Lvl := ℕ) (Val := Elt F) (τ := τ) own c
theorem own0_eq (c : Dev nD) : own0 (F := F) c
    = iprop(semVal (gC c) 0 ∗ (bigSep Finset.univ fun k : Bool × Bool × Fin 24 => semVal (xC k.1 k.2.1 k.2.2 c) 0) ∗ OSem c) := by
  show Pipeline.ownSems0 own c = _
  unfold Pipeline.ownSems0 OSem
  rw [BI.bigSep_univ_sum, BI.bigSep_univ_sum, Finset.univ_unique, BI.bigSep_singleton]
  rfl
theorem un0_eq (c : Dev nD) : (unscopedSems0 c : sProp 𝕄) = semVal (barC c) 0 := by
  unfold unscopedSems0; rw [bigSep_eq_bigSepL_of_eq [SemLoc.reg barS] (by decide) (by decide)]; rfl

/-- What stays with a device. -/
def Lin (c : Dev nD) : sProp 𝕄 := iprop(posT c ∗ payT c ∗ semVal (gC c) 0 ∗ OSem c)
/-- What a device starts from. -/
def G' (c : Dev nD) : sProp 𝕄 :=
  iprop(∃ K : GSem nD τ sig → ℕ, ((bigSep ringCells fun g => cellInv ER (Rd m) (K g) g) ∗ (bigSep ringCells fun g => reached ER g 0)) ∗ Lin c)

theorem g_intro (K : GSem nD τ sig → ℕ) (c : Dev nD) :
    iprop(((bigSep ringCells fun g => cellInv ER (Rd m) (K g) g) ∗ (bigSep ringCells fun g => reached ER g 0)) ∗ Lin (F := F) c) ⊢ G' m c := by
  unfold G'
  iintro H; iexists K; iexact H

theorem cells_alloc : iprop((bigSep ringCells fun g => (semVal g 0 : sProp 𝕄)) ∗ bigSep ringCells fun g => roundState ER (Rd m) g 0)
    ⊢ |={Set.univ}=> iprop(∃ K : GSem nD τ sig → ℕ, bigSep ringCells fun g => cellInv ER (Rd (F := F) m) (K g) g) := by
  refine (Rounds.bodies_intro ER (Rd m) ringCells).trans ((inv_alloc_family ringCells (Rounds.body ER (Rd m)) ∅ (E := Set.univ)).trans (BI.fupd_mono ?_))
  iintro ⟨%κ, -, H⟩
  iexists κ; iexact H

theorem sems_eq (c : Dev nD) : iprop(own0 c ∗ (unscopedSems0 c : sProp 𝕄)) ⊢ iprop(seT (F := F) c ∗ semVal (gC c) 0 ∗ OSem c) := by
  rw [own0_eq, un0_eq]
  unfold seT
  iintro ⟨⟨Hg, Hx, Ho⟩, Hb⟩
  iframe
theorem sems_all : (bigSep Finset.univ fun c => iprop(own0 c ∗ unscopedSems0 c ∗ G m c) : sProp 𝕄)
    ⊢ iprop((bigSep Finset.univ (seT (F := F)) ∗ (bigSep Finset.univ fun c : Dev nD => semVal (gC c) 0) ∗ bigSep Finset.univ OSem) ∗ bigSep Finset.univ (G m)) := by
  refine (BI.bigSep_mono (Ψ := fun c => iprop((seT (F := F) c ∗ semVal (gC c) 0 ∗ OSem c) ∗ G m c)) fun c _ =>
    BI.sep_assoc'.trans (BI.sep_mono_l (sems_eq c))).trans ?_
  rw [BI.bigSep_sep', BI.bigSep_sep', BI.bigSep_sep']
  exact Entails.refl _

theorem glob : (bigSep Finset.univ fun c => iprop(own0 c ∗ unscopedSems0 c ∗ G m c) : sProp 𝕄) ⊢ |={Set.univ}=> bigSep Finset.univ (G' (F := F) m) := by
  refine (sems_all m).trans ?_
  unfold G
  rw [BI.bigSep_sep' Finset.univ (stT (F := F) m), BI.bigSep_sep' Finset.univ (reT (F := F)), BI.bigSep_sep' Finset.univ (posT (F := F)), ← st_family, ← re_family, ← se_family]
  iintro ⟨⟨Hs, Hg, Ho⟩, Hst, #Hr, Hp, Ht⟩
  imod (cells_alloc m) $$ [Hs Hst] with ⟨%K, #HI⟩
  · iframe
  ihave Ht := around $$ Ht
  imodintro
  iapply (bigSep_with_persistent (R := iprop((bigSep ringCells fun g => cellInv ER (Rd m) (K g) g) ∗ (bigSep ringCells fun g => reached ER g 0))) fun c _ => g_intro m K c)
  isplitr
  · isplitl; · iexact HI
    iexact Hr
  unfold Lin
  rw [BI.bigSep_sep', BI.bigSep_sep', BI.bigSep_sep']
  iframe

end Cert.KernelProof

end
-- ==== Proof.Owed.lean ====
/-
The credits a launch gives, and what a device brings to the body.
-/
module

public import proofs.«01_k».proof.Proof.Deal

@[expose] public section

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## What each device owes each cell at launch -/

theorem bar_iff {a b : Dev nD} : Iff (barC a = barC b) (a = b) :=
  ⟨fun h => Fin.ext (congrArg (fun g : GSem nD τ sig => g.1.1.val) h), fun h => h ▸ rfl⟩
theorem x_iff {d d' r r' : Bool} {i i' : Fin 24} {a b : Dev nD} : Iff (xC d r i a = xC d' r' i' b) (d = d' ∧ r = r' ∧ i = i' ∧ a = b) := by
  constructor
  · intro h
    obtain ⟨h1, h2, h3⟩ := xsem_inj (SemLoc.dma.inj (congrArg Prod.snd h))
    exact ⟨h1, h2, h3, Fin.ext (congrArg (fun g : GSem nD τ sig => g.1.1.val) h)⟩
  · rintro ⟨rfl, rfl, rfl, rfl⟩; rfl
theorem bar_ne_x {d r : Bool} {i : Fin 24} {a b : Dev nD} : barC a ≠ xC d r i b := fun h => by cases congrArg Prod.snd h

theorem owed_bar (e c : Dev nD) : O₀ e (barC c) () = (if e = prv c then 1 else 0) + (if e = nxt c then 1 else 0) := by
  have h0 : OO 0 e (barC c) () = 0 := by
    by_contra h
    obtain ⟨d, i, -, hd⟩ := OO_pos (Nat.pos_of_ne_zero h)
    exact bar_ne_x hd
  unfold O₀ O₁
  rw [Pi.add_apply, Finsupp.add_apply, Pi.add_apply, Finsupp.add_apply, h0, tallyAt_apply, tallyAt_apply, Nat.zero_add]
  refine congrArg₂ (· + ·) ?_ ?_
  · refine if_congr ⟨fun h => ?_, fun h => ?_⟩ rfl rfl
    · rw [bar_iff.mp h.1, prv_nxt]
    · rw [h, nxt_prv]; exact ⟨rfl, rfl⟩
  · refine if_congr ⟨fun h => ?_, fun h => ?_⟩ rfl rfl
    · rw [bar_iff.mp h.1, nxt_prv]
    · rw [h, prv_nxt]; exact ⟨rfl, rfl⟩

theorem owe1_x (e c : Dev nD) (d : Bool) (i j : Fin 24) : owe1 e j (xC d true i c) () = if j = i then (if e = srcOf d c then N else 0) else 0 := by
  have h1 (b : Bool) : tallyAt (xC b true j (dstOf b e)) () N (xC d true i c) () = if d = b ∧ j = i ∧ e = srcOf d c then N else 0 := by
    rw [tallyAt_apply]
    refine if_congr ⟨fun h => ?_, fun h => ?_⟩ rfl rfl
    · obtain ⟨rfl, -, rfl, rfl⟩ := x_iff.mp h.1
      exact ⟨rfl, rfl, (src_dst d e).symm⟩
    · obtain ⟨rfl, rfl, rfl⟩ := h
      rw [dst_src]; exact ⟨rfl, rfl⟩
  unfold owe1
  rw [Pi.add_apply, Finsupp.add_apply, h1, h1]
  by_cases hj : j = i <;> by_cases he : e = srcOf d c <;> cases d <;> simp [hj, he]
theorem owed_x (e c : Dev nD) (d : Bool) (i : Fin 24) : O₀ e (xC d true i c) () = if e = srcOf d c then N else 0 := by
  unfold O₀ O₁ OO
  rw [Pi.add_apply, Finsupp.add_apply, Pi.add_apply, Finsupp.add_apply, tallyAt_apply, tallyAt_apply,
    if_neg (fun h => bar_ne_x h.1.symm), if_neg (fun h => bar_ne_x h.1.symm), Nat.add_zero,
    Finset.filter_true_of_mem (fun i _ => Nat.zero_le _), Finset.sum_apply, Finsupp.finset_sum_apply,
    Finset.sum_congr rfl fun j _ => owe1_x e c d i j, Finset.sum_ite_eq' Finset.univ i, if_pos (Finset.mem_univ _)]

theorem launch_bar (c : Dev nD) :
    tallyOn (barC c) (launchCredit (Pipeline.owing O₀) 0 (barC c)) = (tallyAt (barC c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]
theorem launch_x (c : Dev nD) (d : Bool) (i : Fin 24) :
    tallyOn (xC d true i c) (launchCredit (Pipeline.owing O₀) 0 (xC d true i c)) = (tallyAt (xC d true i c) () N : CellTallies nD τ sig Unit) := by
  unfold tallyAt; refine congrArg _ (Finsupp.ext fun u => ?_); cases u
  rw [Pipeline.launchCredit_owing, Finsupp.single_eq_same, Finset.sum_congr rfl fun e _ => owed_x e c d i, Finset.sum_ite_eq' Finset.univ (srcOf d c) fun _ => N,
    if_pos (Finset.mem_univ _)]

/-- The credits of a device's receive cells in a direction. -/
def Cr (d : Bool) (c : Dev nD) : sProp 𝕄 := bigSep Finset.univ fun i : Fin 24 => cred (tallyAt (xC d true i c) () N)

def recvLoc : Bool × Fin 24 ↪ SemLoc sig :=
  ⟨fun k => .dma (xsem k.1 true k.2), fun k k' h => by
    have h' := xsem_inj (SemLoc.dma.inj h)
    exact Prod.ext h'.1 h'.2.2⟩
theorem recv_sub : Finset.univ.map recvLoc ⊆ Finset.univ.erase (SemLoc.reg barS) := fun x hx => by
  obtain ⟨k, -, rfl⟩ := Finset.mem_map.mp hx
  exact Finset.mem_erase.mpr ⟨fun h => (by cases h), Finset.mem_univ _⟩
theorem creds (c : Dev nD) : (Pipeline.launchCred O₀ c : sProp 𝕄) ⊢ iprop(cred (tallyAt (barC c) () 2) ∗ Cr false c ∗ Cr true c) := by
  unfold Pipeline.launchCred
  rw [bigSep_univ_at _ (SemLoc.reg barS), launch_bar]
  refine BI.sep_mono_r ((BI.bigSep_subset recv_sub).trans ?_)
  rw [BI.bigSep_map, BI.bigSep_univ_prod, bool_split]
  unfold Cr
  refine BI.sep_mono (Entails.of_eq (BI.bigSep_congr fun i _ => ?_)) (Entails.of_eq (BI.bigSep_congr fun i _ => ?_))
  · exact congrArg cred (launch_x c false i)
  · exact congrArg cred (launch_x c true i)

/-! ## What a device brings to the body -/

/-- A device's positions and tokens, by transfer. -/
theorem toks_intro (c : Dev nD) : iprop(posT c ∗ payT c ∗ cred (tallyAt (barC c) () 2) ∗ Cr false c ∗ Cr true c)
    ⊢ iprop(Bar0 (F := F) c ∗ Toks false c ∗ Toks true c) := by
  unfold posT payT Bar0 Toks UnY Cr
  simp only [BI.bigSep_sep', x_family]
  iintro ⟨⟨Hb, ⟨a0, a1⟩, ⟨a2, a3⟩⟩, ⟨⟨t0, t1⟩, ⟨t2, t3⟩, ⟨t4, t5⟩⟩, cb, c0, c1⟩
  isplitl [Hb t0 t1 cb]
  · iframe
  isplitl [a0 a1 t2 t3 c0]
  · isplitl [t2 t3]
    · isplitl [t2]; · iexact t2
      iexact t3
    isplitl [a0]; · iexact a0
    isplitl [a1]; · iexact a1
    iexact c0
  isplitl [t4 t5]
  · isplitl [t4]; · iexact t4
    iexact t5
  isplitl [a2]; · iexact a2
  isplitl [a3]; · iexact a3
  iexact c1
/-- The semaphores of the transfers at zero. -/
theorem sems_back (c : Dev nD) : iprop(semVal (gC c) 0 ∗ (Sems false c ∗ Sems true c) ∗ OSem c) ⊢ own0 (F := F) c := by
  rw [own0_eq, x_family]
  unfold Sems
  simp only [BI.bigSep_sep']
  exact Entails.refl _

end Cert.KernelProof

end
-- ==== Proof.Run.lean ====
/-
The region, and the run of the program.
-/
module

public import proofs.«01_k».proof.Proof.Owed

@[expose] public section

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The region's data -/

/-- The scales as the region stages them. -/
def stg0 (c : Dev nD) : Vec F S1 .f32 := (win0_0.blk (0 : Fin 1)).view.read (Elt F) (m (win0_0.arr.view.loc (c : Thread nD τ)))
def stg1 (c : Dev nD) : Vec F S1 .f32 := (win0_1.blk (0 : Fin 1)).view.read (Elt F) (m (win0_1.arr.view.loc (c : Thread nD τ)))
/-- The result of a device. -/
def Res (c : Dev nD) : sProp 𝕄 := Done m (sc (stg0 m c) (stg1 m c)) c

abbrev rest0 (c : Dev nD) : sProp 𝕄 := Pipeline.scopedRest (Ix := Unit) (Name := ℕ) (U := UU) (Lvl := ℕ) (Val := Elt F) spec0 c
theorem rest0_eq (c : Dev nD) : rest0 (F := F) c = Scr c := scopedRest0_eq c

/-- What a device brings to the region beside its buffers, and what it has afterwards. -/
def Str (c : Dev nD) : sProp 𝕄 :=
  iprop(G' m c ∗ (cred (tallyAt (barC c) () 2) ∗ Cr false c ∗ Cr true c) ∗ levAts L lv ∗ HX m c ∗ HW m c ∗ Held main_v1 c)
def Φ₀ (c : Dev nD) : sProp 𝕄 := iprop(Str m c ∗ rest0 c)
def Fin₁ (c : Dev nD) : sProp 𝕄 := iprop(HX m c ∗ HW m c ∗ Res m c ∗ unscopedSems0 c)
def Φ₁ (c : Dev nD) : sProp 𝕄 := iprop(Fin₁ m c ∗ own0 c ∗ rest0 c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => stg0 m c
    | ⟨1, _⟩ => stg1 m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))
theorem owns_whole (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def pre (c : Dev nD) : sProp 𝕄 :=
  iprop(Φ₀ m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def post (c : Dev nD) : sProp 𝕄 :=
  iprop(Φ₁ m c ∗ (dats m ρ 0 c).owesAt () t0_0.succ ∗ stg c cc0_stg0_0 (stg0 m c) ∗ stg c cc0_stg1_0 (stg1 m c))

/-- The body's end, as the region takes it. -/
theorem body_end (c : Dev nD) : BodyPost m c (stg0 m c) (stg1 m c) ⊢ post m ρ c := by
  unfold BodyPost Sg0 Sg1 post Φ₁ Fin₁ Res Dat.owesAt Pipeline.owesWithin Ow
  rw [show (dats m ρ 0 c).owed t0_0.succ = 0 from rfl, OO_last 24 (by decide) c, un0_eq, rest0_eq]
  iintro ⟨⟨%W, HO⟩, Hz, Hs, Hg, Ho, HX, HW, Hv, Hr, S0, S1⟩
  ihave Hs := (sems_back c) $$ [Hs Hg Ho]
  · iframe
  isplitl [Hz HX HW Hv Hs Hr]
  · iframe
  isplitl [HO]
  · iexists W; isplitr
    · ipureintro; exact fun _ _ => Or.inl trivial
    iexact HO
  isplitl [S0]
  · iexists _; isplitr; · (ipureintro; rfl)
    iexact S0
  iexists _; isplitr; · (ipureintro; rfl)
  iexact S1

theorem body_run (c : Dev nD) : pre m ρ c ⊢ WP c (onBufs (cc0_body (F := F))) (fun _ => post m ρ c) := by
  refine BIBase.Entails.trans ?_ (wp_mono _ _ _ fun _ => body_end m ρ c)
  unfold pre Φ₀ Str G' Dat.owesAt Pipeline.owesWithin Lin
  rw [show (dats m ρ 0 c).owed t0_0.castSucc = O₀ c from rfl, rest0_eq]
  iintro ⟨⟨⟨⟨%K, ⟨#HI, #HR⟩, Hp, Ht, Hg, Ho⟩, Hc, #HL, HX, HW, Hv⟩, Hr⟩, ⟨%W, %hW, HO⟩, ⟨%d0, %g0, %hg0, S0⟩, ⟨%d1, %g1, %hg1, S1⟩⟩
  have h0 : g0 = stg0 m c := by rw [hg0]; unfold Dat.before; rw [if_pos (fetch0_0 t0_0)]; rfl
  have h1 : g1 = stg1 m c := by rw [hg1]; unfold Dat.before; rw [if_pos (fetch0_1 t0_0)]; rfl
  subst h0 h1
  icases Hc with ⟨c0, c1, c2⟩
  ihave Hb := (toks_intro c) $$ [Hp Ht c0 c1 c2]
  · iframe
  icases Hb with ⟨Hb, Ht⟩
  iapply (body_wp m K c (stg0 m c) (stg1 m c) W)
  unfold Ctx BodyPre Sg0 Sg1
  isplitr
  · isplitr; · iexact HI
    isplitr; · iexact HR
    iexact HL
  isplitl [Hb]; · iexact Hb
  isplitl [HO]; · iexact HO
  isplitl [Ht]; · iexact Ht
  isplitl [Hg]; · iexact Hg
  isplitl [Ho]; · iexact Ho
  isplitl [HX]; · iexact HX
  isplitl [HW]; · iexact HW
  isplitl [Hv]; · iexact Hv
  isplitl [Hr]; · iexact Hr
  isplitl [S0]; · iexact S0
  iexact S1

set_option maxRecDepth 40000 in
theorem body_obligation (c : Dev nD) : BodyObligation (dats (F := F) m ρ 0 c) (defs₀ (F := F)) 𝒱₀ () Set.univ := fun t => by
  rw [fin_N0 t]
  rw [bigSep_W0, bigSep_W0]
  simp only [owns_whole]
  exact body_run m ρ c

end Cert.KernelProof

end
-- ==== Proof.Whole.lean ====
/-
The run of the program.
-/
module

public import proofs.«01_k».proof.Proof.Run
public import Idealize.ShloMosaic.Lib.Pipeline.CollectiveSegs

@[expose] public section

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def u₀ : UU := (initOf (Pipeline.cells cfgs cellOf_inj) (Pipeline.launchToks cfgs cellOf_inj), (initOf ringCells ringToks, 1))

theorem ownU_split (a : UR sig nD τ) (b : UB) :
    (ownU (a, (b, (1 : Counters))) : sProp 𝕄) ⊢ iprop(BI.own (EP a) ∗ BI.own (ER b)) :=
  (ownU_pair a (b, (1 : Counters))).trans (Entails.refl _)

theorem share_eq (c : Dev nD) (w : Fin cfg0.W) : (dats m ρ 0 c).share w = fullShare := by unfold Dat.share; split <;> rfl

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(Str m c ∗ emp) := by
  rw [Pipeline.unscopedRestP_none, unscopedRest0_eq]
  iintro ⟨⟨HX, HW, Hv⟩, Hlev, Hcr, -, HG⟩
  ihave Hc := (creds (F := F) c) $$ Hcr
  imodintro
  unfold Str HX HW
  isplitl
  · isplitl [HG]; · iexact HG
    isplitl [Hc]; · iexact Hc
    isplitl [Hlev]; · iexact Hlev
    isplitl [HX]; · iexact HX
    isplitl [HW]; · iexact HW
    unfold Held; iexists _; iexact Hv
  · iempintro
theorem phi0_intro (c : Dev nD) :
    iprop(Str m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iexact Hr
theorem phi1_exit (c : Dev nD) :
    (dats m ρ 0 c).Φ (Fin.last cfg0.N) ⊢ iprop(Fin₁ m c ∗ Pipeline.ownSems0 own c ∗ Pipeline.scopedRest cfg0.spec c) :=
  Entails.refl _

/-- What a device's memory holds in the end. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)
    ∧ s.mem ((c : Thread nD τ).loc main_arg1) = m ((c : Thread nD τ).loc main_arg1)
    ∧ ∀ b, (oM.access (oR b)).read (Elt F) (s.mem ((c : Thread nD τ).loc main_v1)) = fin m (sc (stg0 m c) (stg1 m c)) c b

theorem read_end (c : Dev nD) (s' : Phys nD τ sig (Elt F)) :
    iprop(Fin₁ m c ∗ emp ∗ SI s') ⊢ |={Set.univ}=> iprop(⌜QY m c s'.mem⌝ ∗ SI s') := by
  unfold Fin₁ HX HW Res Done
  iintro ⟨⟨HX, HW, ⟨%g, %hg, Hv⟩, Hu⟩, -, HSI⟩
  icombine HSI HX gives %h0
  icombine HSI HW gives %h1
  icombine HSI Hv gives %h2
  imod (Pipeline.unscopedSems0_read (X := unscopedSems0 c) (c := c) fupd_intro s') $$ [Hu HSI] with ⟨%hs, HSI⟩
  · isplitl [Hu] <;> iassumption
  imodintro
  isplitr
  · ipureintro
    exact ⟨hs, Buf.eq_of_forall_mem_univ h0, Buf.eq_of_forall_mem_univ h1, fun b => by rw [Buf.eq_of_forall_mem_univ h2]; exact hg b⟩
  iexact HSI

/-- What the run leaves. -/
def QF (r : PUnit × MemSt nD τ sig (Elt F)) : Prop :=
  (∀ c : Dev nD,
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ ∀ b, (oM.access (oR b)).read (Elt F) (r.2.mem ((c : Thread nD τ).loc main_v1)) = fin m (sc (stg0 m c) (stg1 m c)) c b)
  ∧ r.2.sem = fun _ => 0

set_option maxRecDepth 80000 in
theorem run_main : θ_run defs (onTc (τ := τ) (main (F := F))) (s₀ m ρ) (QF m) :=
  Pipeline.θ_run_region_owing_glob_pf (fun p => (cfgs p).toPCfg) (fun p => (cfgs p).toPCfg_adm) (dats m ρ) () cellOf_inj (0 : Fin 1)
    winFacts0.to₀ own_facts (Pipeline.PreFacts.none _) EP defs₀ 𝒱₀ m ρ main
    (hmain := fun _ => rfl)
    (hbody := fun c => body_obligation m ρ c) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_split _ _) $$ Hu
      icases H with ⟨HP, HX⟩
      imod (fund_ring m) $$ HX with HG
      imodintro
      isplitl [HP] <;> iassumption)
    (hglob := glob m)
    (hA := fun _ _ => rfl) (hpf := fun _ k => k.elim0)
    (X := Str m) (Y := Fin₁ m) (Z := fun _ => iprop(emp))
    (hX := start_intro m ρ) (hin := phi0_intro m ρ) (hout := phi1_exit m ρ)
    (QY := QY m) (hY := read_end m)
    (hQ := fun s h hs => ⟨fun c => ⟨(h c).2.2.2.1, (h c).2.2.2.2.1,
      ((h c).1 (0 : Fin 2)).trans ((dats (F := F) m ρ 0 c).arrAt_in (0 : Fin 2) rfl _),
      ((h c).1 (1 : Fin 2)).trans ((dats (F := F) m ρ 0 c).arrAt_in (1 : Fin 2) rfl _), (h c).2.2.2.2.2⟩,
      sem_eq_zero hs fun c => (h c).2.2.1⟩)

end Cert.KernelProof

end
-- ==== Proof.Same.lean ====
module

public import proofs.«01_k».proof.Proof.Whole
public import proofs.«01_k».proof.Proof.Gen.KernelIdeal
public import proofs.«01_k».proof.Defs

@[expose] public section
set_option maxRecDepth 20000
namespace Cert.KernelProof
open Idealize.ShloMosaic Idealize.SL.Sem
variable {F : FTy → Type} [FloatOps F]

/-- The two prints of the kernel's body are one program. -/
theorem body_same : (Cert.KernelIdeal.cc0_body (F := F)) = (Cert.Kernel.cc0_body (F := F)) := by rfl

/-- So are their body tables, -/
theorem defs0_same : (Cert.KernelIdeal.defs₀ (F := F)) = (Cert.Kernel.defs₀ (F := F)) := by
  unfold Cert.KernelIdeal.defs₀ Cert.Kernel.defs₀
  refine congrArg _ (funext fun l => ?_)
  match l with
  | 0 =>
    funext a
    rcases a with ⟨t, s⟩
    dsimp only
    rw [body_same]

/-- the tables with the pipeline's regions, -/
theorem defs_same : (Cert.KernelIdeal.defs (F := F)) = (Cert.Kernel.defs (F := F)) :=
  congrArg (Pipeline.defs (Cert.Kernel.pcfgs (F := F))) defs0_same

/-- and the programs that launch them. -/
theorem main_same : (Cert.KernelIdeal.main (F := F)) = (Cert.Kernel.main (F := F)) := by rfl

/-- The kernel read over the extended reals runs as the kernel does over any floats. -/
theorem idealRun (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal)))
      ⟨m, fun _ => 0, g⟩ (QF (F := Ideal) m) := by
  have h := run_main (F := Ideal) m g
  rw [← defs_same, ← main_same] at h
  exact h

/-- The kernel runs, leaves its arguments and every counter as they were. -/
theorem frame_kernel : Cert.quiescent_Kernel := fun m g _ =>
  (θ_run Cert.Kernel.defs _ _).mono (fun _ h => ⟨fun c => ⟨(h.1 c).1, (h.1 c).2.1, (h.1 c).2.2.1, (h.1 c).2.2.2.1⟩, h.2⟩) (run_main (F := Bits) m g)

/-- So does its reading over the extended reals. -/
theorem frame_ideal : Cert.quiescent_KernelIdeal := fun m g _ =>
  (θ_run Cert.KernelIdeal.defs _ _).mono (fun _ h => ⟨fun c => ⟨(h.1 c).1, (h.1 c).2.1, (h.1 c).2.2.1, (h.1 c).2.2.2.1⟩, h.2⟩) (idealRun m g)

end Cert.KernelProof
end
-- ==== Proof.RefRun.lean ====
/-
The reference's run: it ends, keeps its arguments, and holds the scaled product.
-/
module

public import proofs.«01_k».proof.Defs
public import proofs.«01_k».proof.Proof.Gen.ReferenceIdeal.Run

@[expose] public section

namespace Cert.KernelProof

open Idealize.ShloMosaic Idealize.SL.Sem

/-- The reference has no semaphore. -/
theorem ref_no_sem (g : GSem Cert.ReferenceIdeal.nD Cert.ReferenceIdeal.τ Cert.ReferenceIdeal.sig) : False :=
  match g.2 with
  | .reg s => s.elim0
  | .dma s => s.elim0

theorem frame_reference : Cert.quiescent_ReferenceIdeal := fun m g _ =>
  (θ_run Cert.ReferenceIdeal.defs _ _).mono (fun _ h => ⟨fun c => (h c).2, funext fun s => (ref_no_sem s).elim⟩)
    (Cert.ReferenceIdeal.Value.run (F := Ideal) m g)

end Cert.KernelProof

end
-- ==== Proof.Value.lean ====
/-
What the result is over the extended reals: each device's block holds, at every
index, the products of the four devices added up, times the two scales.
-/
module

public import proofs.«01_k».proof.Proof.Run
public import Idealize.ShloMosaic.PureOps.Ideal.Laws
public import Idealize.ShloMosaic.Lib.ValueIdx
public import Idealize.ShloMosaic.Lib.Pipeline.Value
public import Idealize.ShloMosaic.Lib.Pipeline.ValueKit.Geometry

@[expose] public section

noncomputable section

namespace Cert.KernelProof

open Cert.Kernel Cert.Kernel.Gen
open Idealize.ShloMosaic
open Idealize.ShloMosaic.TcCoe
open Idealize.SL.Sem

section Generic

variable {F : FTy → Type} [FloatOps F]

/-- The block of rows that a message carries. -/
def flat (v : Vec F S1x512x1024 .bf16) : Vec F S512x1024 .bf16 := shapeCast S512x1024 v shapeCasts_S1x512x1024_S512x1024

theorem flat_first (v : Vec F S512x1024 .bf16) : flat (k0_pay9 v) = v :=
  shapeCast_shapeCast v shapeCasts_S512x1024_S1x512x1024 shapeCasts_S1x512x1024_S512x1024

theorem flat_next (v : Vec F S512x1024 .bf16) (w : Vec F S1x512x1024 .bf16) : flat (k0_pay17 v w) = addf v (flat w) :=
  shapeCast_shapeCast (addf v (flat w)) shapeCasts_S512x1024_S1x512x1024 shapeCasts_S1x512x1024_S512x1024

theorem last_eq (s : F .f32) (v : Vec F S512x1024 .f32) (w : Vec F S1x512x1024 .bf16) :
    k0_pay34 s v w = mulf (addf v (extf .f32 (flat w) bitsLt_bf16_f32)) (broadcast S512x1024 s) := by
  unfold k0_pay34
  exact shapeCast_self (mulf (addf v (extf .f32 (flat w) bitsLt_bf16_f32)) (broadcast S512x1024 s)) shapeCasts_S512x1024_S512x1024

theorem rows_apply (h : Fin 2) (t : Vec F S1024x1024 .bf16) (i : S512x1024.Idx) : rows h t i = t ((hR h).emb i) := rfl
theorem rowsF_apply (h : Fin 2) (t : Vec F S1024x1024 .f32) (i : S512x1024.Idx) : rowsF h t i = t ((hR h).emb i) := rfl

/-- The half written is the half read, and the other half stays. -/
theorem rowsF_set (h : Fin 2) (t : Vec F S1024x1024 .f32) (w : Vec F S512x1024 .f32) : rowsF h (setRowsF h t w) = w := by
  unfold rowsF setRowsF
  exact View.read_write_univ _ _

theorem hR_apart (h h' : Fin 2) (e : h ≠ h') : Disjoint (hR h).set (hR h').set :=
  Idealize.ShloMosaic.Ring.lead_disjoint (s := S1024x1024) 0 512 (fun t => ![512 * t.val, 0]) S512x1024.size hR_inb (fun _ => rfl) rfl h h' e
theorem hR_cover : Finset.univ.biUnion (fun t => (hR t).set) = Finset.univ :=
  Idealize.ShloMosaic.Ring.lead_cover (s := S1024x1024) 0 512 (fun t => ![512 * t.val, 0]) S512x1024.size hR_inb (fun _ => rfl)
    (fun t a ha => by fin_cases a <;> first | rfl | exact absurd rfl ha) rfl (fun a ha => by fin_cases a <;> first | rfl | exact absurd rfl ha) rfl

theorem rowsF_keep (h h' : Fin 2) (e : h ≠ h') (t : Vec F S1024x1024 .f32) (w : Vec F S512x1024 .f32) :
    rowsF h' (setRowsF h t w) = rowsF h' t := by
  unfold rowsF setRowsF
  refine View.read_slice_write_slice_of_disjoint (v := (tM false).view) (hR h') (hR h) t w Finset.univ ?_
  rw [View.setOn_univ, View.set_slice, View.set_slice]
  exact (Finset.disjoint_map _).2 (hR_apart h' h e.symm)

/-- Two blocks with the same halves are the same. -/
theorem halves_ext (t t' : Vec F S1024x1024 .f32) (e : ∀ h, rowsF h t = rowsF h t') : t = t' := by
  funext i
  have hi : i ∈ Finset.univ.biUnion fun h => (hR h).set := hR_cover ▸ Finset.mem_univ i
  obtain ⟨h, -, hi⟩ := Finset.mem_biUnion.1 hi
  obtain ⟨x, -, rfl⟩ := Finset.mem_map.1 ((hR h).map_emb_univ ▸ hi)
  exact congrFun (e h) x

end Generic

section OverIdeal

variable (m : (ℓ : Loc nD τ sig) → Buf (Elt Ideal) ℓ)

/-- A device's part of `x`, and its part of the weights. -/
def X (c : Dev nD) : S4096x1024.Idx → EReal := m ((c : Thread nD τ).loc main_arg0)
def W (c : Dev nD) : S1024x8192.Idx → EReal := m ((c : Thread nD τ).loc main_arg1)

/-- A device's share of block `j` of rows and block `n` of columns of the product. -/
def T (c : Dev nD) (j : Fin 4) (n : Fin 8) (i : S1024x1024.Idx) : EReal :=
  ∑ k : Fin 1024, X m c ((xR j).emb (Shape.pair (i 0) k)) * W m c ((oR n).emb (Shape.pair k (i 1)))

theorem xch_eq (c : Dev nD) (j : Fin 4) : xch m c j = fun i => X m c ((xR j).emb i) := by
  unfold xch k0_pay4
  exact shapeCast_self (fun i => X m c ((xR j).emb i)) shapeCasts_S1024x1024_S1024x1024

theorem wch_flat (c : Dev nD) (n : Fin 8) :
    shapeCast S1024x1024 (wch m c n) shapeCasts_S1x1x1024x1024_S1024x1024 = fun i => W m c ((oR n).emb i) := by
  unfold wch k0_pay2
  exact shapeCast_shapeCast (fun i => W m c ((oR n).emb i)) shapeCasts_S1024x1024_S1x1x1024x1024 shapeCasts_S1x1x1024x1024_S1024x1024

abbrev dd : DotDims S1024x1024 S1024x1024 S1024x1024 := dot_S1024x1024_S1024x1024_S1024x1024_1_0_0_1_n_n

/-- A product of two blocks, read at an index. -/
theorem dot_apply (l r : S1024x1024.Idx → EReal) (i : S1024x1024.Idx) :
    (∑ k : dd.contr.Idx, l (dd.lhsIdx i k) * r (dd.rhsIdx i k)) = ∑ k : Fin 1024, l (Shape.pair (i 0) k) * r (Shape.pair k (i 1)) := by
  rw [← Equiv.sum_comp (ValueIdx.contrEquiv1 dd 1024 rfl rfl).symm]
  refine Finset.sum_congr rfl fun k _ => ?_
  have hk := ValueIdx.contrEquiv1_symm_val dd 1024 rfl rfl k
  have el : dd.lhsIdx i ((ValueIdx.contrEquiv1 dd 1024 rfl rfl).symm k) = Shape.pair (i 0) k := funext fun a => Fin.ext (by
    match a with
    | ⟨0, _⟩ =>
      show (dd.lhsIdx i _ 0).val = (i 0).val
      unfold DotDims.lhsIdx
      rw [dif_neg (show ¬(0 : Fin S1024x1024.rank) ∈ dd.lhsBatch by decide), dif_pos (show (0 : Fin S1024x1024.rank) ∈ dd.lhsNonContracting by decide)]
      rfl
    | ⟨1, _⟩ => exact (dd.lhsIdx_val_of_single rfl i _).trans hk)
  have er : dd.rhsIdx i ((ValueIdx.contrEquiv1 dd 1024 rfl rfl).symm k) = Shape.pair k (i 1) := funext fun a => Fin.ext (by
    match a with
    | ⟨0, _⟩ => exact (dd.rhsIdx_val_of_single rfl i _).trans hk
    | ⟨1, _⟩ =>
      show (dd.rhsIdx i _ 1).val = (i 1).val
      unfold DotDims.rhsIdx
      rw [dif_neg (show ¬(1 : Fin S1024x1024.rank) ∈ dd.rhsBatch by decide), dif_pos (show (1 : Fin S1024x1024.rank) ∈ dd.rhsNonContracting by decide)]
      rfl)
  rw [el, er]

theorem prtF_eq (c : Dev nD) (j : Fin 4) (n : Fin 8) : prtF m c j n = T m c j n := by
  funext i
  unfold prtF k0_pay30
  rw [shapeCast_self, wch_flat, xch_eq]
  exact (Ideal.matmul_constant_zero_apply (φ₁ := .bf16) (φ₂ := .bf16) dd none _ _ i).trans
    (dot_apply (fun i => X m c ((xR j).emb i)) (fun i => W m c ((oR n).emb i)) i)

theorem prt_eq (c : Dev nD) (j : Fin 4) (n : Fin 8) : prt m c j n = T m c j n := by
  funext i
  unfold prt k0_pay7
  rw [shapeCast_self, wch_flat, xch_eq]
  exact (Ideal.matmul_constant_zero_apply (φ₁ := .bf16) (φ₂ := .bf16) dd none _ _ i).trans
    (dot_apply (fun i => X m c ((xR j).emb i)) (fun i => W m c ((oR n).emb i)) i)

/-- What a device sends, added up along the ring. -/
theorem sent_zero (d : Bool) (p : Fin 4) (h : Fin 2) (c : Dev nD) (i : S512x1024.Idx) :
    flat (sentAt m d p h 0 c) i = T m c (ch d 0 c) (col d p) ((hR h).emb i) := by
  rw [sentAt, flat_first, prt_eq]; rfl

theorem sent_succ (d : Bool) (p : Fin 4) (h : Fin 2) (s : ℕ) (c : Dev nD) (i : S512x1024.Idx) :
    flat (sentAt m d p h (s + 1) c) i
      = (T m c (ch d (s + 1) c) (col d p) ((hR h).emb i) + flat (sentAt m d p h s (srcOf d c)) i : EReal) := by
  rw [sentAt, flat_next, prt_eq]; rfl

/-- A half after the last step: what was there, plus what arrives, times the scales. -/
theorem halves (s : EReal) (d : Bool) (p : Fin 4) (c : Dev nD) (h : Fin 2) :
    rowsF h (tAt m s d p c 2) = k0_pay34 (F := Ideal) s (rowsF h (tAt m s d p c 0)) (sentAt m d p h 2 (srcOf d c)) := by
  have e2 : tAt m s d p c 2 = setRowsF 1 (tAt m s d p c 1) (k0_pay34 (F := Ideal) s (rowsF 1 (tAt m s d p c 1)) (sentAt m d p 1 2 (srcOf d c))) := rfl
  have e1 : tAt m s d p c 1 = setRowsF 0 (tAt m s d p c 0) (k0_pay34 (F := Ideal) s (rowsF 0 (tAt m s d p c 0)) (sentAt m d p 0 2 (srcOf d c))) := rfl
  match h with
  | 0 => rw [e2, rowsF_keep 1 0 (by decide), e1, rowsF_set]
  | 1 => rw [e2, rowsF_set, e1, rowsF_keep 0 1 (by decide)]

/-- Round the ring, in either direction, every device comes once. -/
theorem round (d : Bool) (c : Dev nD) :
    (Finset.univ : Finset (Fin 4)) = {c, srcOf d c, srcOf d (srcOf d c), srcOf d (srcOf d (srcOf d c))}
    ∧ c ∉ ({srcOf d c, srcOf d (srcOf d c), srcOf d (srcOf d (srcOf d c))} : Finset (Fin 4))
    ∧ srcOf d c ∉ ({srcOf d (srcOf d c), srcOf d (srcOf d (srcOf d c))} : Finset (Fin 4))
    ∧ srcOf d (srcOf d c) ∉ ({srcOf d (srcOf d (srcOf d c))} : Finset (Fin 4)) := by
  revert d c; decide

theorem ring_sum (g : Fin 4 → EReal) (d : Bool) (c : Dev nD) :
    g c + (g (srcOf d c) + (g (srcOf d (srcOf d c)) + g (srcOf d (srcOf d (srcOf d c))))) = ∑ a : Fin 4, g a := by
  obtain ⟨e, e1, e2, e3⟩ := round d c
  rw [e, Finset.sum_insert e1, Finset.sum_insert e2, Finset.sum_insert e3, Finset.sum_singleton]

theorem ch_own (d : Bool) (c : Dev nD) : xj 0 c = c ∧ ch d 2 (srcOf d c) = c ∧ ch d 1 (srcOf d (srcOf d c)) = c
    ∧ ch d 0 (srcOf d (srcOf d (srcOf d c))) = c := by
  revert d c; decide

/-- A block of the result of a device: the four shares, added up and scaled. -/
theorem fin_eq (s : EReal) (d : Bool) (p : Fin 4) (c : Dev nD) (i : S1024x1024.Idx) :
    tAt m s d p c 2 i = ((∑ a : Fin 4, T m a c (col d p) i) * s : EReal) := by
  have h : tAt m s d p c 2 = fun i => ((∑ a : Fin 4, T m a c (col d p) i) * s : EReal) := halves_ext _ _ fun h => ?_
  · rw [h]
  rw [halves, last_eq]
  funext x
  obtain ⟨h0, h2, h1, h3⟩ := ch_own d c
  have e : flat (sentAt m d p h 2 (srcOf d c)) x = (T m (srcOf d c) c (col d p) ((hR h).emb x) + (T m (srcOf d (srcOf d c)) c (col d p) ((hR h).emb x)
      + T m (srcOf d (srcOf d (srcOf d c))) c (col d p) ((hR h).emb x)) : EReal) := by
    rw [sent_succ, sent_succ, sent_zero, h2, h1, h3]
  show ((rowsF h (tAt m s d p c 0) x + flat (sentAt m d p h 2 (srcOf d c)) x) * s : EReal) = (∑ a : Fin 4, T m a c (col d p) ((hR h).emb x)) * s
  rw [e, ← ring_sum (fun a => T m a c (col d p) ((hR h).emb x)) d c, rowsF_apply, tAt, prtF_eq, h0]

end OverIdeal

end Cert.KernelProof

end
-- ==== Proof.Equal.lean ====
/-
The kernel and the reference agree: over the extended reals the blocks that the
devices hold make up the scaled product of the whole arrays.
-/
module

public import proofs.«01_k».proof.Defs
public import proofs.«01_k».proof.Proof.Value
public import proofs.«01_k».proof.Proof.Same
public import proofs.«01_k».proof.Proof.RefRun
public import proofs.«01_k».proof.Proof.Gen.ReferenceIdeal.Read

@[expose] public section

noncomputable section

namespace Cert.KernelProof

open Cert.Kernel Cert.Kernel.Gen
open Idealize.ShloMosaic
open Idealize.ShloMosaic.TcCoe
open Idealize.SL.Sem

/-- The shapes of the whole arrays. -/
abbrev XS : Shape := ⟨2, ![4096, 4096]⟩
abbrev WS : Shape := ⟨2, ![4096, 8192]⟩

/-- A sum over 4096 is four sums over 1024. -/
theorem sum_split (f : Fin 4096 → EReal) :
    ∑ k : Fin 4096, f k = ∑ a : Fin 4, ∑ k : Fin 1024, f ⟨1024 * a.val + k.val, by omega⟩ := by
  rw [← Equiv.sum_comp (finProdFinEquiv : Fin 4 × Fin 1024 ≃ Fin 4096) f, Fintype.sum_prod_type]
  refine Finset.sum_congr rfl fun a _ => Finset.sum_congr rfl fun k _ => congrArg f (Fin.ext ?_)
  show k.val + 1024 * a.val = 1024 * a.val + k.val
  omega

theorem tX : Layout.Tiles S4096x1024 XS 1 4 := by decide
theorem tW : Layout.Tiles S1024x8192 WS 0 4 := by decide

theorem pair_ext {d : Fin 2 → ℕ} {i j : (⟨2, d⟩ : Shape).Idx} (h0 : (i 0).val = (j 0).val) (h1 : (i 1).val = (j 1).val) : i = j :=
  funext fun a => Fin.ext (match a with | ⟨0, _⟩ => h0 | ⟨1, _⟩ => h1)

/-- Where an element of `x` that device `a` reads for block `c` of rows lies in the whole array; -/
theorem x_at (a c : Fin 4) (b : Fin 8) (x : S1024x1024.Idx) (k : Fin 1024) :
    tX.idx a ((xR c).emb (Shape.pair (x 0) k))
      = Cert.ReferenceIdeal.Read.lidx_main_v0 (tW.idx c ((oR b).emb x)) ⟨1024 * a.val + k.val, by omega⟩ := by
  refine pair_ext (d := ![4096, 4096]) ?_ ?_
  · show 1024 * c.val + 1 * (x 0).val = c.val * 1024 + (0 + 1 * (x 0).val)
    omega
  · show a.val * 1024 + (0 + 1 * k.val) = 1024 * a.val + k.val
    omega

/-- and where one of the weights does. -/
theorem w_at (a c : Fin 4) (b : Fin 8) (x : S1024x1024.Idx) (k : Fin 1024) :
    tW.idx a ((oR b).emb (Shape.pair k (x 1)))
      = Cert.ReferenceIdeal.Read.ridx_main_v0 (tW.idx c ((oR b).emb x)) ⟨1024 * a.val + k.val, by omega⟩ := by
  refine pair_ext (d := ![4096, 8192]) ?_ ?_
  · show a.val * 1024 + (0 + 1 * k.val) = 1024 * a.val + k.val
    omega
  · show 1024 * b.val + 1 * (x 1).val = 1024 * b.val + 1 * (x 1).val
    rfl

theorem s1_one (i j : S1.Idx) : i = j := by
  funext a
  have h := (i a).isLt; have h' := (j a).isLt
  match a with
  | ⟨0, _⟩ => exact Fin.ext (by have : (i 0).val < 1 := h; have : (j 0).val < 1 := h'; show (i 0).val = (j 0).val; omega)

theorem col_eq (b : Fin 8) : col (decide (4 ≤ b.val)) ⟨b.val % 4, Nat.mod_lt _ (by decide)⟩ = b := by revert b; decide

section Memory

variable (m : (ℓ : Loc nD τ sig) → Buf (Elt Ideal) ℓ)
variable (x0 : XS.Idx → EReal) (x1 : WS.Idx → EReal) (x2 x3 : S1.Idx → EReal)

/-- The devices hold their parts of the whole arrays. -/
def Parts : Prop := ∀ c : Dev nD,
  X m c = Layout.block S4096x1024 XS 1 4 c x0 tX ∧ W m c = Layout.block S1024x8192 WS 0 4 c x1 tW
  ∧ (m ((c : Thread nD τ).loc main_arg2) : S1.Idx → EReal) = x2 ∧ (m ((c : Thread nD τ).loc main_arg3) : S1.Idx → EReal) = x3

variable {m x0 x1 x2 x3}

/-- The scales, multiplied. -/
theorem sc_eq (h : Parts m x0 x1 x2 x3) (c : Dev nD) (i : S1.Idx) : (sc (stg0 m c) (stg1 m c) : EReal) = x2 i * x3 i := by
  obtain ⟨-, -, h2, h3⟩ := h c
  rw [← h2, ← h3]
  exact congrArg₂ (fun (a b : EReal) => a * b) (congrArg (m ((c : Thread nD τ).loc main_arg2)) (s1_one _ _)) (congrArg (m ((c : Thread nD τ).loc main_arg3)) (s1_one _ _))

/-- The four shares add up to the whole product. -/
theorem shares_eq (h : Parts m x0 x1 x2 x3) (c : Dev nD) (b : Fin 8) (x : S1024x1024.Idx) :
    (∑ a : Fin 4, T m a c b x) = Cert.ReferenceIdeal.Read.val_main_v0 (F := Ideal) x0 x1 (tW.idx c ((oR b).emb x)) := by
  rw [Cert.ReferenceIdeal.Read.val_main_v0_apply, sum_split]
  refine Finset.sum_congr rfl fun a _ => ?_
  unfold T
  refine Finset.sum_congr rfl fun k _ => ?_
  rw [(h a).1, (h a).2.1]
  exact congrArg₂ (fun (a b : EReal) => a * b) (congrArg x0 (x_at a c b x k)) (congrArg x1 (w_at a c b x k))

/-- The result of a device is its part of the reference's. -/
theorem result_eq (h : Parts m x0 x1 x2 x3) (c : Dev nD) (f : S1024x8192.Idx → EReal)
    (hf : ∀ b, (oM.access (oR b)).read (Elt Ideal) f = fin m (sc (stg0 m c) (stg1 m c)) c b) :
    f = Layout.block S1024x8192 WS 0 4 c (Cert.ReferenceIdeal.Read.val_main_v4 (F := Ideal) x0 x1 x2 x3) tW := by
  funext i
  have hi : i ∈ Finset.univ.biUnion fun b => (oR b).set := by rw [oR_cover]; exact Finset.mem_univ i
  obtain ⟨b, -, hi⟩ := Finset.mem_biUnion.1 hi
  obtain ⟨x, -, rfl⟩ := Finset.mem_map.1 ((oR b).map_emb_univ ▸ hi)
  refine (congrFun (hf b) x).trans ?_
  unfold fin
  rw [fin_eq, col_eq, shares_eq h, Layout.block_apply, Cert.ReferenceIdeal.Read.val_main_v4_apply,
    Cert.ReferenceIdeal.Read.val_main_v3_apply, Cert.ReferenceIdeal.Read.val_main_v2_apply, Cert.ReferenceIdeal.Read.val_main_v1_apply]
  exact congrArg (fun s : EReal => Cert.ReferenceIdeal.Read.val_main_v0 (F := Ideal) x0 x1 (tW.idx c ((oR b).emb x)) * s) (sc_eq h c _)

end Memory

/-- The kernel's blocks are those of the reference's result. -/
theorem equal : Cert.algebraic_KernelIdeal_ReferenceIdeal := fun m g m' g' _ hm =>
  have h : Parts m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)) := hm
  ⟨_, (θ_run Cert.KernelIdeal.defs _ _).mono
      (fun _ r c => ⟨result_eq h c _ (r.1 c).2.2.2.2, (r.1 c).1, (r.1 c).2.1, (r.1 c).2.2.1, (r.1 c).2.2.2.1⟩) (idealRun m g),
    (θ_run Cert.ReferenceIdeal.defs _ _).mono (fun _ r => r 0) (Cert.ReferenceIdeal.Value.run (F := Ideal) m' g')⟩

end Cert.KernelProof

end
-- ==== Proof.lean ====
/- The certificate: its claims, each from the module that proves it. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.ReferenceIdeal
public import proofs.«01_k».proof.Proof.Gen.ReferenceIdeal.Run
public import proofs.«01_k».proof.Proof.Same
public import proofs.«01_k».proof.Proof.RefRun
public import proofs.«01_k».proof.Proof.Gen.ReferenceIdeal.Read
public import proofs.«01_k».proof.Proof.Equal

@[expose] public section

noncomputable section

namespace Cert.Proof

open Idealize.ShloMosaic Idealize.SL.Sem Cert.KernelProof

theorem claim : Cert.Claim :=
  ⟨Cert.Kernel.Gen.facts, Cert.KernelIdeal.Gen.facts, Cert.ReferenceIdeal.Gen.facts,
    frame_kernel, frame_ideal, frame_reference, trivial, equal⟩

end Cert.Proof

end
